-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_table [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_in_table : Cert.Pre_in_table.Facts] (m : (ℓ : Loc Cert.Reference.nD Cert.Reference.τ Cert.Reference.sig) → Buf (Elt Bits) ℓ) : Prop :=
  ∀ c : Dev Cert.Reference.nD,
    (Cert.Pre_in_table.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Finish (m : (ℓ : Loc Cert.Finish.nD Cert.Finish.τ Cert.Finish.sig) → Buf (Elt Bits) ℓ) : Prop :=
  True

def Pre_FinishIdeal (m : (ℓ : Loc Cert.FinishIdeal.nD Cert.FinishIdeal.τ Cert.FinishIdeal.sig) → Buf (Elt Ideal) ℓ) : Prop :=
  True

def Pre_FinishRefIdeal (m : (ℓ : Loc Cert.FinishRefIdeal.nD Cert.FinishRefIdeal.τ Cert.FinishRefIdeal.sig) → Buf (Elt Ideal) ℓ) : Prop :=
  True

def Pre_Argmin (m : (ℓ : Loc Cert.Argmin.nD Cert.Argmin.τ Cert.Argmin.sig) → Buf (Elt Bits) ℓ) : Prop :=
  True

def Pre_ArgminIdeal (m : (ℓ : Loc Cert.ArgminIdeal.nD Cert.ArgminIdeal.τ Cert.ArgminIdeal.sig) → Buf (Elt Ideal) ℓ) : Prop :=
  True

def Pre_ArgminIdeal_finite [hPre_finite : Cert.Pre_finite.Facts] (m : (ℓ : Loc Cert.ArgminIdeal.nD Cert.ArgminIdeal.τ Cert.ArgminIdeal.sig) → Buf (Elt Ideal) ℓ) : Prop :=
  ∀ c : Dev Cert.ArgminIdeal.nD,
    (Cert.Pre_finite.fn (F := Ideal) (m ((c.tc : Thread Cert.ArgminIdeal.nD Cert.ArgminIdeal.τ).loc Cert.ArgminIdeal.main_arg0)) (m ((c.tc : Thread Cert.ArgminIdeal.nD Cert.ArgminIdeal.τ).loc Cert.ArgminIdeal.main_arg1)) (m ((c.tc : Thread Cert.ArgminIdeal.nD Cert.ArgminIdeal.τ).loc Cert.ArgminIdeal.main_arg2)) (m ((c.tc : Thread Cert.ArgminIdeal.nD Cert.ArgminIdeal.τ).loc Cert.ArgminIdeal.main_arg3))) = (fun _ => 1#1)

def Pre_ArgminRefIdeal (m : (ℓ : Loc Cert.ArgminRefIdeal.nD Cert.ArgminRefIdeal.τ Cert.ArgminRefIdeal.sig) → Buf (Elt Ideal) ℓ) : Prop :=
  True

def Pre_ArgminRefIdeal_finite [hPre_finite : Cert.Pre_finite.Facts] (m : (ℓ : Loc Cert.ArgminRefIdeal.nD Cert.ArgminRefIdeal.τ Cert.ArgminRefIdeal.sig) → Buf (Elt Ideal) ℓ) : Prop :=
  ∀ c : Dev Cert.ArgminRefIdeal.nD,
    (Cert.Pre_finite.fn (F := Ideal) (m ((c.tc : Thread Cert.ArgminRefIdeal.nD Cert.ArgminRefIdeal.τ).loc Cert.ArgminRefIdeal.main_arg0)) (m ((c.tc : Thread Cert.ArgminRefIdeal.nD Cert.ArgminRefIdeal.τ).loc Cert.ArgminRefIdeal.main_arg1)) (m ((c.tc : Thread Cert.ArgminRefIdeal.nD Cert.ArgminRefIdeal.τ).loc Cert.ArgminRefIdeal.main_arg2)) (m ((c.tc : Thread Cert.ArgminRefIdeal.nD Cert.ArgminRefIdeal.τ).loc Cert.ArgminRefIdeal.main_arg3))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_table [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_in_table : Cert.Pre_in_table.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Finish [hFinish : Cert.Finish.Facts] : Prop :=
  ∀ (m : (ℓ : Loc Cert.Finish.nD Cert.Finish.τ Cert.Finish.sig) → Buf (Elt Bits) ℓ) (g : Dev Cert.Finish.nD → PrngReg), Pre_Finish m →
    θ_run (Cert.Finish.defs (F := Bits)) (onTc (τ := Cert.Finish.τ) (Cert.Finish.main (F := Bits))) ⟨m, fun _ => 0, g⟩ (fun r => (∀ c : Dev Cert.Finish.nD,
      r.2.mem ((c.tc : Thread Cert.Finish.nD Cert.Finish.τ).loc Cert.Finish.main_arg0) = m ((c.tc : Thread Cert.Finish.nD Cert.Finish.τ).loc Cert.Finish.main_arg0)
      ∧ r.2.mem ((c.tc : Thread Cert.Finish.nD Cert.Finish.τ).loc Cert.Finish.main_arg1) = m ((c.tc : Thread Cert.Finish.nD Cert.Finish.τ).loc Cert.Finish.main_arg1))
      ∧ r.2.sem = fun _ => 0)

def quiescent_FinishIdeal [hFinishIdeal : Cert.FinishIdeal.Facts] : Prop :=
  ∀ (m : (ℓ : Loc Cert.FinishIdeal.nD Cert.FinishIdeal.τ Cert.FinishIdeal.sig) → Buf (Elt Ideal) ℓ) (g : Dev Cert.FinishIdeal.nD → PrngReg), Pre_FinishIdeal m →
    θ_run (Cert.FinishIdeal.defs (F := Ideal)) (onTc (τ := Cert.FinishIdeal.τ) (Cert.FinishIdeal.main (F := Ideal))) ⟨m, fun _ => 0, g⟩ (fun r => (∀ c : Dev Cert.FinishIdeal.nD,
      r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
      ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1))
      ∧ r.2.sem = fun _ => 0)

def quiescent_FinishRefIdeal [hFinishRefIdeal : Cert.FinishRefIdeal.Facts] : Prop :=
  ∀ (m : (ℓ : Loc Cert.FinishRefIdeal.nD Cert.FinishRefIdeal.τ Cert.FinishRefIdeal.sig) → Buf (Elt Ideal) ℓ) (g : Dev Cert.FinishRefIdeal.nD → PrngReg), Pre_FinishRefIdeal m →
    θ_run (Cert.FinishRefIdeal.defs (F := Ideal)) (onTc (τ := Cert.FinishRefIdeal.τ) (Cert.FinishRefIdeal.main (F := Ideal))) ⟨m, fun _ => 0, g⟩ (fun r => (∀ c : Dev Cert.FinishRefIdeal.nD,
      r.2.mem ((c.tc : Thread Cert.FinishRefIdeal.nD Cert.FinishRefIdeal.τ).loc Cert.FinishRefIdeal.main_arg0) = m ((c.tc : Thread Cert.FinishRefIdeal.nD Cert.FinishRefIdeal.τ).loc Cert.FinishRefIdeal.main_arg0)
      ∧ r.2.mem ((c.tc : Thread Cert.FinishRefIdeal.nD Cert.FinishRefIdeal.τ).loc Cert.FinishRefIdeal.main_arg1) = m ((c.tc : Thread Cert.FinishRefIdeal.nD Cert.FinishRefIdeal.τ).loc Cert.FinishRefIdeal.main_arg1))
      ∧ r.2.sem = fun _ => 0)

def quiescent_Argmin [hArgmin : Cert.Argmin.Facts] : Prop :=
  ∀ (m : (ℓ : Loc Cert.Argmin.nD Cert.Argmin.τ Cert.Argmin.sig) → Buf (Elt Bits) ℓ) (g : Dev Cert.Argmin.nD → PrngReg), Pre_Argmin m →
    θ_run (Cert.Argmin.defs (F := Bits)) (onTc (τ := Cert.Argmin.τ) (Cert.Argmin.main (F := Bits))) ⟨m, fun _ => 0, g⟩ (fun r => (∀ c : Dev Cert.Argmin.nD,
      r.2.mem ((c.tc : Thread Cert.Argmin.nD Cert.Argmin.τ).loc Cert.Argmin.main_arg0) = m ((c.tc : Thread Cert.Argmin.nD Cert.Argmin.τ).loc Cert.Argmin.main_arg0)
      ∧ r.2.mem ((c.tc : Thread Cert.Argmin.nD Cert.Argmin.τ).loc Cert.Argmin.main_arg1) = m ((c.tc : Thread Cert.Argmin.nD Cert.Argmin.τ).loc Cert.Argmin.main_arg1)
      ∧ r.2.mem ((c.tc : Thread Cert.Argmin.nD Cert.Argmin.τ).loc Cert.Argmin.main_arg2) = m ((c.tc : Thread Cert.Argmin.nD Cert.Argmin.τ).loc Cert.Argmin.main_arg2)
      ∧ r.2.mem ((c.tc : Thread Cert.Argmin.nD Cert.Argmin.τ).loc Cert.Argmin.main_arg3) = m ((c.tc : Thread Cert.Argmin.nD Cert.Argmin.τ).loc Cert.Argmin.main_arg3))
      ∧ r.2.sem = fun _ => 0)

def quiescent_ArgminIdeal [hArgminIdeal : Cert.ArgminIdeal.Facts] : Prop :=
  ∀ (m : (ℓ : Loc Cert.ArgminIdeal.nD Cert.ArgminIdeal.τ Cert.ArgminIdeal.sig) → Buf (Elt Ideal) ℓ) (g : Dev Cert.ArgminIdeal.nD → PrngReg), Pre_ArgminIdeal m →
    θ_run (Cert.ArgminIdeal.defs (F := Ideal)) (onTc (τ := Cert.ArgminIdeal.τ) (Cert.ArgminIdeal.main (F := Ideal))) ⟨m, fun _ => 0, g⟩ (fun r => (∀ c : Dev Cert.ArgminIdeal.nD,
      r.2.mem ((c.tc : Thread Cert.ArgminIdeal.nD Cert.ArgminIdeal.τ).loc Cert.ArgminIdeal.main_arg0) = m ((c.tc : Thread Cert.ArgminIdeal.nD Cert.ArgminIdeal.τ).loc Cert.ArgminIdeal.main_arg0)
      ∧ r.2.mem ((c.tc : Thread Cert.ArgminIdeal.nD Cert.ArgminIdeal.τ).loc Cert.ArgminIdeal.main_arg1) = m ((c.tc : Thread Cert.ArgminIdeal.nD Cert.ArgminIdeal.τ).loc Cert.ArgminIdeal.main_arg1)
      ∧ r.2.mem ((c.tc : Thread Cert.ArgminIdeal.nD Cert.ArgminIdeal.τ).loc Cert.ArgminIdeal.main_arg2) = m ((c.tc : Thread Cert.ArgminIdeal.nD Cert.ArgminIdeal.τ).loc Cert.ArgminIdeal.main_arg2)
      ∧ r.2.mem ((c.tc : Thread Cert.ArgminIdeal.nD Cert.ArgminIdeal.τ).loc Cert.ArgminIdeal.main_arg3) = m ((c.tc : Thread Cert.ArgminIdeal.nD Cert.ArgminIdeal.τ).loc Cert.ArgminIdeal.main_arg3))
      ∧ r.2.sem = fun _ => 0)

def quiescent_ArgminIdeal_pre_finite [hArgminIdeal : Cert.ArgminIdeal.Facts] [hPre_finite : Cert.Pre_finite.Facts] : Prop :=
  ∀ (m : (ℓ : Loc Cert.ArgminIdeal.nD Cert.ArgminIdeal.τ Cert.ArgminIdeal.sig) → Buf (Elt Ideal) ℓ) (g : Dev Cert.ArgminIdeal.nD → PrngReg), Pre_ArgminIdeal_finite m →
    θ_run (Cert.ArgminIdeal.defs (F := Ideal)) (onTc (τ := Cert.ArgminIdeal.τ) (Cert.ArgminIdeal.main (F := Ideal))) ⟨m, fun _ => 0, g⟩ (fun r => (∀ c : Dev Cert.ArgminIdeal.nD,
      r.2.mem ((c.tc : Thread Cert.ArgminIdeal.nD Cert.ArgminIdeal.τ).loc Cert.ArgminIdeal.main_arg0) = m ((c.tc : Thread Cert.ArgminIdeal.nD Cert.ArgminIdeal.τ).loc Cert.ArgminIdeal.main_arg0)
      ∧ r.2.mem ((c.tc : Thread Cert.ArgminIdeal.nD Cert.ArgminIdeal.τ).loc Cert.ArgminIdeal.main_arg1) = m ((c.tc : Thread Cert.ArgminIdeal.nD Cert.ArgminIdeal.τ).loc Cert.ArgminIdeal.main_arg1)
      ∧ r.2.mem ((c.tc : Thread Cert.ArgminIdeal.nD Cert.ArgminIdeal.τ).loc Cert.ArgminIdeal.main_arg2) = m ((c.tc : Thread Cert.ArgminIdeal.nD Cert.ArgminIdeal.τ).loc Cert.ArgminIdeal.main_arg2)
      ∧ r.2.mem ((c.tc : Thread Cert.ArgminIdeal.nD Cert.ArgminIdeal.τ).loc Cert.ArgminIdeal.main_arg3) = m ((c.tc : Thread Cert.ArgminIdeal.nD Cert.ArgminIdeal.τ).loc Cert.ArgminIdeal.main_arg3))
      ∧ r.2.sem = fun _ => 0)

def quiescent_ArgminRefIdeal [hArgminRefIdeal : Cert.ArgminRefIdeal.Facts] : Prop :=
  ∀ (m : (ℓ : Loc Cert.ArgminRefIdeal.nD Cert.ArgminRefIdeal.τ Cert.ArgminRefIdeal.sig) → Buf (Elt Ideal) ℓ) (g : Dev Cert.ArgminRefIdeal.nD → PrngReg), Pre_ArgminRefIdeal m →
    θ_run (Cert.ArgminRefIdeal.defs (F := Ideal)) (onTc (τ := Cert.ArgminRefIdeal.τ) (Cert.ArgminRefIdeal.main (F := Ideal))) ⟨m, fun _ => 0, g⟩ (fun r => (∀ c : Dev Cert.ArgminRefIdeal.nD,
      r.2.mem ((c.tc : Thread Cert.ArgminRefIdeal.nD Cert.ArgminRefIdeal.τ).loc Cert.ArgminRefIdeal.main_arg0) = m ((c.tc : Thread Cert.ArgminRefIdeal.nD Cert.ArgminRefIdeal.τ).loc Cert.ArgminRefIdeal.main_arg0)
      ∧ r.2.mem ((c.tc : Thread Cert.ArgminRefIdeal.nD Cert.ArgminRefIdeal.τ).loc Cert.ArgminRefIdeal.main_arg1) = m ((c.tc : Thread Cert.ArgminRefIdeal.nD Cert.ArgminRefIdeal.τ).loc Cert.ArgminRefIdeal.main_arg1)
      ∧ r.2.mem ((c.tc : Thread Cert.ArgminRefIdeal.nD Cert.ArgminRefIdeal.τ).loc Cert.ArgminRefIdeal.main_arg2) = m ((c.tc : Thread Cert.ArgminRefIdeal.nD Cert.ArgminRefIdeal.τ).loc Cert.ArgminRefIdeal.main_arg2)
      ∧ r.2.mem ((c.tc : Thread Cert.ArgminRefIdeal.nD Cert.ArgminRefIdeal.τ).loc Cert.ArgminRefIdeal.main_arg3) = m ((c.tc : Thread Cert.ArgminRefIdeal.nD Cert.ArgminRefIdeal.τ).loc Cert.ArgminRefIdeal.main_arg3))
      ∧ r.2.sem = fun _ => 0)

def quiescent_ArgminRefIdeal_pre_finite [hArgminRefIdeal : Cert.ArgminRefIdeal.Facts] [hPre_finite : Cert.Pre_finite.Facts] : Prop :=
  ∀ (m : (ℓ : Loc Cert.ArgminRefIdeal.nD Cert.ArgminRefIdeal.τ Cert.ArgminRefIdeal.sig) → Buf (Elt Ideal) ℓ) (g : Dev Cert.ArgminRefIdeal.nD → PrngReg), Pre_ArgminRefIdeal_finite m →
    θ_run (Cert.ArgminRefIdeal.defs (F := Ideal)) (onTc (τ := Cert.ArgminRefIdeal.τ) (Cert.ArgminRefIdeal.main (F := Ideal))) ⟨m, fun _ => 0, g⟩ (fun r => (∀ c : Dev Cert.ArgminRefIdeal.nD,
      r.2.mem ((c.tc : Thread Cert.ArgminRefIdeal.nD Cert.ArgminRefIdeal.τ).loc Cert.ArgminRefIdeal.main_arg0) = m ((c.tc : Thread Cert.ArgminRefIdeal.nD Cert.ArgminRefIdeal.τ).loc Cert.ArgminRefIdeal.main_arg0)
      ∧ r.2.mem ((c.tc : Thread Cert.ArgminRefIdeal.nD Cert.ArgminRefIdeal.τ).loc Cert.ArgminRefIdeal.main_arg1) = m ((c.tc : Thread Cert.ArgminRefIdeal.nD Cert.ArgminRefIdeal.τ).loc Cert.ArgminRefIdeal.main_arg1)
      ∧ r.2.mem ((c.tc : Thread Cert.ArgminRefIdeal.nD Cert.ArgminRefIdeal.τ).loc Cert.ArgminRefIdeal.main_arg2) = m ((c.tc : Thread Cert.ArgminRefIdeal.nD Cert.ArgminRefIdeal.τ).loc Cert.ArgminRefIdeal.main_arg2)
      ∧ r.2.mem ((c.tc : Thread Cert.ArgminRefIdeal.nD Cert.ArgminRefIdeal.τ).loc Cert.ArgminRefIdeal.main_arg3) = m ((c.tc : Thread Cert.ArgminRefIdeal.nD Cert.ArgminRefIdeal.τ).loc Cert.ArgminRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def preserves_Finish_FinishIdeal : Prop :=
  True

def algebraic_FinishIdeal_FinishRefIdeal [hFinishIdeal : Cert.FinishIdeal.Facts] [hFinishRefIdeal : Cert.FinishRefIdeal.Facts] : Prop :=
  ∀ (m : (ℓ : Loc Cert.FinishIdeal.nD Cert.FinishIdeal.τ Cert.FinishIdeal.sig) → Buf (Elt Ideal) ℓ) (g : Dev Cert.FinishIdeal.nD → PrngReg)
    (m' : (ℓ : Loc Cert.FinishRefIdeal.nD Cert.FinishRefIdeal.τ Cert.FinishRefIdeal.sig) → Buf (Elt Ideal) ℓ) (g' : Dev Cert.FinishRefIdeal.nD → PrngReg), Pre_FinishIdeal m →
    (∀ c : Dev Cert.FinishIdeal.nD,
      m' ((c.tc : Thread Cert.FinishRefIdeal.nD Cert.FinishRefIdeal.τ).loc Cert.FinishRefIdeal.main_arg0) = m ((c.tc : Thread Cert.FinishIdeal.nD Cert.FinishIdeal.τ).loc Cert.FinishIdeal.main_arg0)
      ∧ m' ((c.tc : Thread Cert.FinishRefIdeal.nD Cert.FinishRefIdeal.τ).loc Cert.FinishRefIdeal.main_arg1) = m ((c.tc : Thread Cert.FinishIdeal.nD Cert.FinishIdeal.τ).loc Cert.FinishIdeal.main_arg1)) →
    ∃ (v0 : (c : Dev Cert.FinishIdeal.nD) → Buf (Elt Ideal) ((c.tc : Thread Cert.FinishIdeal.nD Cert.FinishIdeal.τ).loc Cert.FinishIdeal.main_v1_0)) (v1 : (c : Dev Cert.FinishIdeal.nD) → Buf (Elt Ideal) ((c.tc : Thread Cert.FinishIdeal.nD Cert.FinishIdeal.τ).loc Cert.FinishIdeal.main_v1_1)),
      θ_run (Cert.FinishIdeal.defs (F := Ideal)) (onTc (τ := Cert.FinishIdeal.τ) (Cert.FinishIdeal.main (F := Ideal))) ⟨m, fun _ => 0, g⟩ (fun r => ∀ c : Dev Cert.FinishIdeal.nD,
          r.2.mem ((c.tc : Thread Cert.FinishIdeal.nD Cert.FinishIdeal.τ).loc Cert.FinishIdeal.main_v1_0) = v0 c
          ∧ r.2.mem ((c.tc : Thread Cert.FinishIdeal.nD Cert.FinishIdeal.τ).loc Cert.FinishIdeal.main_v1_1) = v1 c
          ∧ r.2.mem ((c.tc : Thread Cert.FinishIdeal.nD Cert.FinishIdeal.τ).loc Cert.FinishIdeal.main_arg0) = m ((c.tc : Thread Cert.FinishIdeal.nD Cert.FinishIdeal.τ).loc Cert.FinishIdeal.main_arg0)
          ∧ r.2.mem ((c.tc : Thread Cert.FinishIdeal.nD Cert.FinishIdeal.τ).loc Cert.FinishIdeal.main_arg1) = m ((c.tc : Thread Cert.FinishIdeal.nD Cert.FinishIdeal.τ).loc Cert.FinishIdeal.main_arg1))
      ∧ θ_run (Cert.FinishRefIdeal.defs (F := Ideal)) (onTc (τ := Cert.FinishRefIdeal.τ) (Cert.FinishRefIdeal.main (F := Ideal))) ⟨m', fun _ => 0, g'⟩ (fun r => ∀ c : Dev Cert.FinishRefIdeal.nD,
          r.2.mem ((c.tc : Thread Cert.FinishRefIdeal.nD Cert.FinishRefIdeal.τ).loc Cert.FinishRefIdeal.main_v12) = v0 c
          ∧ r.2.mem ((c.tc : Thread Cert.FinishRefIdeal.nD Cert.FinishRefIdeal.τ).loc Cert.FinishRefIdeal.main_v14) = v1 c
          ∧ r.2.mem ((c.tc : Thread Cert.FinishRefIdeal.nD Cert.FinishRefIdeal.τ).loc Cert.FinishRefIdeal.main_arg0) = m' ((c.tc : Thread Cert.FinishRefIdeal.nD Cert.FinishRefIdeal.τ).loc Cert.FinishRefIdeal.main_arg0)
          ∧ r.2.mem ((c.tc : Thread Cert.FinishRefIdeal.nD Cert.FinishRefIdeal.τ).loc Cert.FinishRefIdeal.main_arg1) = m' ((c.tc : Thread Cert.FinishRefIdeal.nD Cert.FinishRefIdeal.τ).loc Cert.FinishRefIdeal.main_arg1))

def preserves_Argmin_ArgminIdeal : Prop :=
  True

def algebraic_ArgminIdeal_ArgminRefIdeal_pre_finite [hArgminIdeal : Cert.ArgminIdeal.Facts] [hArgminRefIdeal : Cert.ArgminRefIdeal.Facts] [hPre_finite : Cert.Pre_finite.Facts] : Prop :=
  ∀ (m : (ℓ : Loc Cert.ArgminIdeal.nD Cert.ArgminIdeal.τ Cert.ArgminIdeal.sig) → Buf (Elt Ideal) ℓ) (g : Dev Cert.ArgminIdeal.nD → PrngReg)
    (m' : (ℓ : Loc Cert.ArgminRefIdeal.nD Cert.ArgminRefIdeal.τ Cert.ArgminRefIdeal.sig) → Buf (Elt Ideal) ℓ) (g' : Dev Cert.ArgminRefIdeal.nD → PrngReg), Pre_ArgminIdeal_finite m →
    (∀ c : Dev Cert.ArgminIdeal.nD,
      m' ((c.tc : Thread Cert.ArgminRefIdeal.nD Cert.ArgminRefIdeal.τ).loc Cert.ArgminRefIdeal.main_arg0) = m ((c.tc : Thread Cert.ArgminIdeal.nD Cert.ArgminIdeal.τ).loc Cert.ArgminIdeal.main_arg0)
      ∧ m' ((c.tc : Thread Cert.ArgminRefIdeal.nD Cert.ArgminRefIdeal.τ).loc Cert.ArgminRefIdeal.main_arg1) = m ((c.tc : Thread Cert.ArgminIdeal.nD Cert.ArgminIdeal.τ).loc Cert.ArgminIdeal.main_arg1)
      ∧ m' ((c.tc : Thread Cert.ArgminRefIdeal.nD Cert.ArgminRefIdeal.τ).loc Cert.ArgminRefIdeal.main_arg2) = m ((c.tc : Thread Cert.ArgminIdeal.nD Cert.ArgminIdeal.τ).loc Cert.ArgminIdeal.main_arg2)
      ∧ m' ((c.tc : Thread Cert.ArgminRefIdeal.nD Cert.ArgminRefIdeal.τ).loc Cert.ArgminRefIdeal.main_arg3) = m ((c.tc : Thread Cert.ArgminIdeal.nD Cert.ArgminIdeal.τ).loc Cert.ArgminIdeal.main_arg3)) →
    ∃ (v0 : (c : Dev Cert.ArgminIdeal.nD) → Buf (Elt Ideal) ((c.tc : Thread Cert.ArgminIdeal.nD Cert.ArgminIdeal.τ).loc Cert.ArgminIdeal.main_v2_0)) (v1 : (c : Dev Cert.ArgminIdeal.nD) → Buf (Elt Ideal) ((c.tc : Thread Cert.ArgminIdeal.nD Cert.ArgminIdeal.τ).loc Cert.ArgminIdeal.main_v2_1)) (v2 : (c : Dev Cert.ArgminIdeal.nD) → Buf (Elt Ideal) ((c.tc : Thread Cert.ArgminIdeal.nD Cert.ArgminIdeal.τ).loc Cert.ArgminIdeal.main_v2_2)),
      θ_run (Cert.ArgminIdeal.defs (F := Ideal)) (onTc (τ := Cert.ArgminIdeal.τ) (Cert.ArgminIdeal.main (F := Ideal))) ⟨m, fun _ => 0, g⟩ (fun r => ∀ c : Dev Cert.ArgminIdeal.nD,
          r.2.mem ((c.tc : Thread Cert.ArgminIdeal.nD Cert.ArgminIdeal.τ).loc Cert.ArgminIdeal.main_v2_0) = v0 c
          ∧ r.2.mem ((c.tc : Thread Cert.ArgminIdeal.nD Cert.ArgminIdeal.τ).loc Cert.ArgminIdeal.main_v2_1) = v1 c
          ∧ r.2.mem ((c.tc : Thread Cert.ArgminIdeal.nD Cert.ArgminIdeal.τ).loc Cert.ArgminIdeal.main_v2_2) = v2 c
          ∧ r.2.mem ((c.tc : Thread Cert.ArgminIdeal.nD Cert.ArgminIdeal.τ).loc Cert.ArgminIdeal.main_arg0) = m ((c.tc : Thread Cert.ArgminIdeal.nD Cert.ArgminIdeal.τ).loc Cert.ArgminIdeal.main_arg0)
          ∧ r.2.mem ((c.tc : Thread Cert.ArgminIdeal.nD Cert.ArgminIdeal.τ).loc Cert.ArgminIdeal.main_arg1) = m ((c.tc : Thread Cert.ArgminIdeal.nD Cert.ArgminIdeal.τ).loc Cert.ArgminIdeal.main_arg1)
          ∧ r.2.mem ((c.tc : Thread Cert.ArgminIdeal.nD Cert.ArgminIdeal.τ).loc Cert.ArgminIdeal.main_arg2) = m ((c.tc : Thread Cert.ArgminIdeal.nD Cert.ArgminIdeal.τ).loc Cert.ArgminIdeal.main_arg2)
          ∧ r.2.mem ((c.tc : Thread Cert.ArgminIdeal.nD Cert.ArgminIdeal.τ).loc Cert.ArgminIdeal.main_arg3) = m ((c.tc : Thread Cert.ArgminIdeal.nD Cert.ArgminIdeal.τ).loc Cert.ArgminIdeal.main_arg3))
      ∧ θ_run (Cert.ArgminRefIdeal.defs (F := Ideal)) (onTc (τ := Cert.ArgminRefIdeal.τ) (Cert.ArgminRefIdeal.main (F := Ideal))) ⟨m', fun _ => 0, g'⟩ (fun r => ∀ c : Dev Cert.ArgminRefIdeal.nD,
          r.2.mem ((c.tc : Thread Cert.ArgminRefIdeal.nD Cert.ArgminRefIdeal.τ).loc Cert.ArgminRefIdeal.main_v24) = v0 c
          ∧ r.2.mem ((c.tc : Thread Cert.ArgminRefIdeal.nD Cert.ArgminRefIdeal.τ).loc Cert.ArgminRefIdeal.main_v25) = v1 c
          ∧ r.2.mem ((c.tc : Thread Cert.ArgminRefIdeal.nD Cert.ArgminRefIdeal.τ).loc Cert.ArgminRefIdeal.main_v23) = v2 c
          ∧ r.2.mem ((c.tc : Thread Cert.ArgminRefIdeal.nD Cert.ArgminRefIdeal.τ).loc Cert.ArgminRefIdeal.main_arg0) = m' ((c.tc : Thread Cert.ArgminRefIdeal.nD Cert.ArgminRefIdeal.τ).loc Cert.ArgminRefIdeal.main_arg0)
          ∧ r.2.mem ((c.tc : Thread Cert.ArgminRefIdeal.nD Cert.ArgminRefIdeal.τ).loc Cert.ArgminRefIdeal.main_arg1) = m' ((c.tc : Thread Cert.ArgminRefIdeal.nD Cert.ArgminRefIdeal.τ).loc Cert.ArgminRefIdeal.main_arg1)
          ∧ r.2.mem ((c.tc : Thread Cert.ArgminRefIdeal.nD Cert.ArgminRefIdeal.τ).loc Cert.ArgminRefIdeal.main_arg2) = m' ((c.tc : Thread Cert.ArgminRefIdeal.nD Cert.ArgminRefIdeal.τ).loc Cert.ArgminRefIdeal.main_arg2)
          ∧ r.2.mem ((c.tc : Thread Cert.ArgminRefIdeal.nD Cert.ArgminRefIdeal.τ).loc Cert.ArgminRefIdeal.main_arg3) = m' ((c.tc : Thread Cert.ArgminRefIdeal.nD Cert.ArgminRefIdeal.τ).loc Cert.ArgminRefIdeal.main_arg3))

def Claim : Prop :=
  ∃ (hKernel : Cert.Kernel.Facts) (hKernelIdeal : Cert.KernelIdeal.Facts) (hReferenceIdeal : Cert.ReferenceIdeal.Facts) (hReference : Cert.Reference.Facts) (hFinish : Cert.Finish.Facts) (hFinishIdeal : Cert.FinishIdeal.Facts) (hFinishRefIdeal : Cert.FinishRefIdeal.Facts) (hArgmin : Cert.Argmin.Facts) (hArgminIdeal : Cert.ArgminIdeal.Facts) (hArgminRefIdeal : Cert.ArgminRefIdeal.Facts) (hPre_in_table : Cert.Pre_in_table.Facts) (hPre_finite : Cert.Pre_finite.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal)
    ∧ quiescent_ReferenceIdeal_pre_in_table (hReferenceIdeal := hReferenceIdeal) (hPre_in_table := hPre_in_table)
    ∧ quiescent_Reference (hReference := hReference) (hPre_in_table := hPre_in_table)
    ∧ quiescent_Finish (hFinish := hFinish)
    ∧ quiescent_FinishIdeal (hFinishIdeal := hFinishIdeal)
    ∧ quiescent_FinishRefIdeal (hFinishRefIdeal := hFinishRefIdeal)
    ∧ quiescent_Argmin (hArgmin := hArgmin)
    ∧ quiescent_ArgminIdeal (hArgminIdeal := hArgminIdeal)
    ∧ quiescent_ArgminIdeal_pre_finite (hArgminIdeal := hArgminIdeal) (hPre_finite := hPre_finite)
    ∧ quiescent_ArgminRefIdeal (hArgminRefIdeal := hArgminRefIdeal)
    ∧ quiescent_ArgminRefIdeal_pre_finite (hArgminRefIdeal := hArgminRefIdeal) (hPre_finite := hPre_finite)
    ∧ preserves_Kernel_KernelIdeal
    ∧ algebraic_KernelIdeal_ReferenceIdeal (hKernelIdeal := hKernelIdeal) (hReferenceIdeal := hReferenceIdeal) (hPre_in_table := hPre_in_table)
    ∧ bitexact_Kernel_Reference (hKernel := hKernel) (hReference := hReference) (hPre_in_table := hPre_in_table)
    ∧ preserves_Finish_FinishIdeal
    ∧ algebraic_FinishIdeal_FinishRefIdeal (hFinishIdeal := hFinishIdeal) (hFinishRefIdeal := hFinishRefIdeal)
    ∧ preserves_Argmin_ArgminIdeal
    ∧ algebraic_ArgminIdeal_ArgminRefIdeal_pre_finite (hArgminIdeal := hArgminIdeal) (hArgminRefIdeal := hArgminRefIdeal) (hPre_finite := hPre_finite)
-- ==== Pre_finite.lean ====
abbrev S32x384x32x32 : Shape := ⟨4, ![32, 384, 32, 32]⟩
abbrev S64x384 : Shape := ⟨2, ![64, 384]⟩
abbrev S64 : Shape := ⟨1, ![64]⟩
abbrev S8192x64 : Shape := ⟨2, ![8192, 64]⟩
abbrev S_ : Shape := ⟨0, ![]⟩

class Facts : Prop where
  bcast_S_S32x384x32x32 : S_.BroadcastsInDim S32x384x32x32 (![] : Fin 0 → Fin S32x384x32x32.rank)
  reducesTo_S32x384x32x32_S_d0_1_2_3 : S32x384x32x32.ReducesTo [0, 1, 2, 3] S_
  h_S_ : 0 < S_.numel
  bcast_S_S64x384 : S_.BroadcastsInDim S64x384 (![] : Fin 0 → Fin S64x384.rank)
  reducesTo_S64x384_S_d0_1 : S64x384.ReducesTo [0, 1] S_
  bcast_S_S64 : S_.BroadcastsInDim S64 (![] : Fin 0 → Fin S64.rank)
  reducesTo_S64_S_d0 : S64.ReducesTo [0] S_
  bcast_S_S8192x64 : S_.BroadcastsInDim S8192x64 (![] : Fin 0 → Fin S8192x64.rank)
  reducesTo_S8192x64_S_d0_1 : S8192x64.ReducesTo [0, 1] S_

variable [Facts]

def fn_part1 {F : FTy → Type} [FloatOps F] (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  main_v18

def fn {F : FTy → Type} [FloatOps F] (main_arg0 : FVec F S32x384x32x32 .f32) (main_arg1 : FVec F S64x384 .f32) (main_arg2 : FVec F S64 .f32) (main_arg3 : FVec F S8192x64 .f32) : IVec S_ 1 :=
  let main_v0 : FVec F S32x384x32x32 .f32 := Host.absf main_arg0
  let main_cst : FVec F S_ .f32 := constant S_ .f32 0x7F800000#32
  let main_v1 : FVec F S32x384x32x32 .f32 := broadcastInDim S32x384x32x32 ![] bcast_S_S32x384x32x32 main_cst
  let main_v2 : IVec S32x384x32x32 1 := cmpf .olt main_v0 main_v1
  let main_c : IVec S_ 1 := constantI S_ 1 1#1
  let main_v3 : IVec S_ 1 := (fun x v => Host.reduce IntOp.andi x v reducesTo_S32x384x32x32_S_d0_1_2_3 h_S_) main_v2 main_c
  let main_v4 : FVec F S64x384 .f32 := Host.absf main_arg1
  let main_cst_0 : FVec F S_ .f32 := constant S_ .f32 0x7F800000#32
  let main_v5 : FVec F S64x384 .f32 := broadcastInDim S64x384 ![] bcast_S_S64x384 main_cst_0
  let main_v6 : IVec S64x384 1 := cmpf .olt main_v4 main_v5
  let main_c_1 : IVec S_ 1 := constantI S_ 1 1#1
  let main_v7 : IVec S_ 1 := (fun x v => Host.reduce IntOp.andi x v reducesTo_S64x384_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_v13 main_v16
-- ==== Pre_in_table.lean ====
abbrev S8192x128 : Shape := ⟨2, ![8192, 128]⟩
abbrev S1x32768 : Shape := ⟨2, ![1, 32768]⟩
abbrev S_ : Shape := ⟨0, ![]⟩

class Facts : Prop where
  bcast_S_S1x32768 : S_.BroadcastsInDim S1x32768 (![] : Fin 0 → Fin S1x32768.rank)
  reducesTo_S1x32768_S_d0_1 : S1x32768.ReducesTo [0, 1] S_
  h_S_ : 0 < S_.numel

variable [Facts]

def fn {F : FTy → Type} [FloatOps F] (main_arg0 : FVec F S8192x128 .f32) (main_arg1 : IVec S1x32768 32) : IVec S_ 1 :=
  let main_c : IVec S_ 32 := constantI S_ 32 0#32
  let main_v0 : IVec S1x32768 32 := broadcastInDim S1x32768 ![] bcast_S_S1x32768 main_c
  let main_v1 : IVec S1x32768 1 := cmpi .sge main_arg1 main_v0
  let main_c_0 : IVec S_ 32 := constantI S_ 32 8192#32
  let main_v2 : IVec S1x32768 32 := broadcastInDim S1x32768 ![] bcast_S_S1x32768 main_c_0
  let main_v3 : IVec S1x32768 1 := cmpi .slt main_arg1 main_v2
  let main_v4 : IVec S1x32768 1 := andi main_v1 main_v3
  let main_c_1 : IVec S_ 1 := constantI S_ 1 1#1
  let main_v5 : IVec S_ 1 := (fun x v => Host.reduce IntOp.andi x v reducesTo_S1x32768_S_d0_1 h_S_) main_v4 main_c_1
  main_v5
-- ==== Kernel.lean ====
abbrev S8192x128 : Shape := ⟨2, ![8192, 128]⟩
abbrev S1x32768 : Shape := ⟨2, ![1, 32768]⟩
abbrev S32768x128 : Shape := ⟨2, ![32768, 128]⟩
abbrev S2x1x256 : Shape := ⟨3, ![2, 1, 256]⟩
abbrev S2 : Shape := ⟨1, ![2]⟩
abbrev S2x256x128 : Shape := ⟨3, ![2, 256, 128]⟩
abbrev S1x1x256 : Shape := ⟨3, ![1, 1, 256]⟩
abbrev S1x256 : Shape := ⟨2, ![1, 256]⟩
abbrev S1 : Shape := ⟨1, ![1]⟩
abbrev S_ : Shape := ⟨0, ![]⟩
abbrev S1x256x128 : Shape := ⟨3, ![1, 256, 128]⟩
abbrev S256x128 : Shape := ⟨2, ![256, 128]⟩
abbrev S256 : Shape := ⟨1, ![256]⟩

abbrev nBuf : Table → Nat
  | .hbm => 3
  | .local .scVector .vmem => 2
  | _ => 0

abbrev bufTy : (tb : Table) → Fin (nBuf tb) → BufTy
  | .hbm, ⟨0, _⟩ => ⟨S8192x128, .f32⟩
  | .hbm, ⟨1, _⟩ => ⟨S1x32768, .i32⟩
  | .hbm, ⟨2, _⟩ => ⟨S32768x128, .f32⟩
  | .local .scVector .vmem, ⟨0, _⟩ => ⟨S2x1x256, .i32⟩
  | .local .scVector .vmem, ⟨1, _⟩ => ⟨S2x256x128, .f32⟩
  | _, _ => ⟨S8192x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scoped0 : Ref sig .scVector := ⟨.vmem, 0, rfl⟩
abbrev cc0_scoped2 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 : Fin 3 → Nat :=
  let c0_i32_13_r0 : BitVec 32 := 0#32
  let c2_i32_r0 : BitVec 32 := 2#32
  let v21_r0 : BitVec 32 := Scalar.remui c0_i32_13_r0 c2_i32_r0
  let c0_i32_14_r0 : BitVec 32 := 0#32
  let c0_i32_15_r0 : BitVec 32 := 0#32
  ![v21_r0.toNat, 0, 0]
def k0_off2 (i : grid0.Coords) : Fin 2 → Nat :=
  let c0_i32_16_r0 : BitVec 32 := 0#32
  let c256_i32_r0 : BitVec 32 := 256#32
  let c0_i32_1_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v7_r0 : BitVec 32 := Scalar.addi c0_i32_1_r0 v4
  let v22_r0 : BitVec 32 := Scalar.muli c256_i32_r0 v7_r0
  ![0, v22_r0.toNat]
def k0_off3 : Fin 1 → Nat :=
  let c0_i32_13_r0 : BitVec 32 := 0#32
  let c2_i32_r0 : BitVec 32 := 2#32
  let v21_r0 : BitVec 32 := Scalar.remui c0_i32_13_r0 c2_i32_r0
  ![v21_r0.toNat]
@[reducible] def k0_t1_loop : Scf.Loop 32 :=
  let c0_i32_26_r0 : BitVec 32 := 0#32
  let c4_i32_27_r0 : BitVec 32 := 4#32
  let v32_r0 : BitVec 32 := Scalar.addi c0_i32_26_r0 c4_i32_27_r0
  let c1_i32_28_r0 : BitVec 32 := 1#32
  ⟨c0_i32_26_r0, v32_r0, c1_i32_28_r0⟩
def k0_off4 (arg6_r0 : BitVec 32) : Fin 3 → Nat :=
  let c2_i32_99_r0 : BitVec 32 := 2#32
  let v144_r0 : BitVec 32 := Scalar.remui arg6_r0 c2_i32_99_r0
  let c0_i32_101_r0 : BitVec 32 := 0#32
  let c0_i32_102_r0 : BitVec 32 := 0#32
  ![v144_r0.toNat, 0, 0]
def k0_cond1 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v82_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_68_r0 : BitVec 32 := 3#32
  let v83_r0 : BitVec 1 := Scalar.cmpi .sge arg5_r0 c3_i32_68_r0
  let true_69_r0 : BitVec 1 := 1#1
  let v84_r0 : BitVec 1 := Scalar.xori v83_r0 true_69_r0
  let v85_r0 : BitVec 1 := Scalar.andi v82_r0 v84_r0
  let true_70_r0 : BitVec 1 := 1#1
  let v86_r0 : BitVec 1 := Scalar.andi v85_r0 true_70_r0
  let v87_r0 : BitVec 32 := Scalar.extui v86_r0
  let c0_i32_71_r0 : BitVec 32 := 0#32
  let v88_r0 : BitVec 1 := Scalar.cmpi .ne v87_r0 c0_i32_71_r0
  v88_r0

def k0_off5 (i : grid0.Coords) (arg10_r0 : BitVec 32) : Fin 2 → Nat :=
  let c0_i32_103_r0 : BitVec 32 := 0#32
  let c256_i32_100_r0 : BitVec 32 := 256#32
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v76_r0 : BitVec 32 := Scalar.addi v75_r0 v4
  let v145_r0 : BitVec 32 := Scalar.muli c256_i32_100_r0 v76_r0
  ![0, v145_r0.toNat]
def k0_off6 (arg6_r0 : BitVec 32) : Fin 1 → Nat :=
  let c2_i32_99_r0 : BitVec 32 := 2#32
  let v144_r0 : BitVec 32 := Scalar.remui arg6_r0 c2_i32_99_r0
  ![v144_r0.toNat]
def k0_off7 (arg7_r0 : BitVec 32) : Fin 3 → Nat :=
  let c2_i32_100_r0 : BitVec 32 := 2#32
  let v145_r0 : BitVec 32 := Scalar.remui arg7_r0 c2_i32_100_r0
  let c0_i32_101_r0 : BitVec 32 := 0#32
  let c0_i32_102_r0 : BitVec 32 := 0#32
  ![v145_r0.toNat, 0, 0]
def k0_cond2 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v96_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let v97_r0 : BitVec 1 := Scalar.ori v96_r0 v64_r0
  let c0_i32_76_r0 : BitVec 32 := 0#32
  let v98_r0 : BitVec 1 := Scalar.cmpi .sge arg5_r0 c0_i32_76_r0
  let v99_r0 : BitVec 1 := Scalar.andi v97_r0 v98_r0
  let v100_r0 : BitVec 32 := Scalar.extui v99_r0
  let c0_i32_77_r0 : BitVec 32 := 0#32
  let v101_r0 : BitVec 1 := Scalar.cmpi .ne v100_r0 c0_i32_77_r0
  v101_r0

def k0_off8 (i : grid0.Coords) (arg10_r0 : BitVec 32) : Fin 2 → Nat :=
  let c0_i32_103_r0 : BitVec 32 := 0#32
  let c256_i32_99_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v144_r0 : BitVec 32 := Scalar.muli c256_i32_99_r0 v66_r0
  ![0, v144_r0.toNat]
def k0_off9 (arg7_r0 : BitVec 32) : Fin 1 → Nat :=
  let c2_i32_100_r0 : BitVec 32 := 2#32
  let v145_r0 : BitVec 32 := Scalar.remui arg7_r0 c2_i32_100_r0
  ![v145_r0.toNat]
def k0_off10 (arg8_r0 : BitVec 32) : Fin 3 → Nat :=
  let c2_i32_81_r0 : BitVec 32 := 2#32
  let v109_r0 : BitVec 32 := Scalar.remui arg8_r0 c2_i32_81_r0
  let c0_i32_99_r1 : BitVec 32 := 0#32
  let c0_i32_100_r1 : BitVec 32 := 0#32
  ![v109_r0.toNat, 0, 0]

def k0_chk2 (arg8_r0 : BitVec 32) : Prop :=
  (∀ a, (k0_off10 arg8_r0) a + S1x256x128.size a ≤ S2x256x128.size a)
theorem k0_off10_inb : ∀ (arg8_r0 : BitVec 32) (k0_hw2 : k0_chk2 arg8_r0), ∀ a, (k0_off10 arg8_r0) a + S1x256x128.size a ≤ S2x256x128.size a := fun arg8_r0 k0_hw2 => k0_hw2

def k0_off11 (arg7_r0 : BitVec 32) : Fin 3 → Nat :=
  let c2_i32_80_r0 : BitVec 32 := 2#32
  let v108_r0 : BitVec 32 := Scalar.remui arg7_r0 c2_i32_80_r0
  let c0_i32_101_r1 : BitVec 32 := 0#32
  let c0_i32_102_r1 : BitVec 32 := 0#32
  ![v108_r0.toNat, 0, 0]

def k0_chk3 (arg7_r0 : BitVec 32) : Prop :=
  (∀ a, (k0_off11 arg7_r0) a + S1x1x256.size a ≤ S2x1x256.size a)
theorem k0_off11_inb : ∀ (arg7_r0 : BitVec 32) (k0_hw3 : k0_chk3 arg7_r0), ∀ a, (k0_off11 arg7_r0) a + S1x1x256.size a ≤ S2x1x256.size a := fun arg7_r0 k0_hw3 => k0_hw3

def k0_off12 (arg8_r0 : BitVec 32) : Fin 3 → Nat :=
  let c2_i32_99_r0 : BitVec 32 := 2#32
  let v144_r0 : BitVec 32 := Scalar.remui arg8_r0 c2_i32_99_r0
  let c0_i32_101_r0 : BitVec 32 := 0#32
  let c0_i32_102_r0 : BitVec 32 := 0#32
  ![v144_r0.toNat, 0, 0]
def k0_cond5 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_61_r0 : BitVec 1 := 1#1
  let c1_i32_60_r0 : BitVec 32 := 1#32
  let v72_r0 : BitVec 32 := Scalar.addi arg10_r0 c1_i32_60_r0
  let v73_r0 : BitVec 32 := Scalar.select true_61_r0 v72_r0 arg10_r0
  let c4_i32_62_r0 : BitVec 32 := 4#32
  let v74_r0 : BitVec 1 := Scalar.cmpi .eq v73_r0 c4_i32_62_r0
  let c0_i32_63_r0 : BitVec 32 := 0#32
  let v75_r0 : BitVec 32 := Scalar.select v74_r0 c0_i32_63_r0 v73_r0
  let v76_r0 : BitVec 32 := Scalar.addi v75_r0 v4
  let v115_r0 : BitVec 1 := Scalar.cmpi .ne v66_r0 v76_r0
  let c0_i32_26_r0 : BitVec 32 := 0#32
  let c1_i32_28_r0 : BitVec 32 := 1#32
  let arg5_r0 : BitVec 32 := Scf.iv c0_i32_26_r0 c1_i32_28_r0 k0_t1
  let c3_i32_55_r0 : BitVec 32 := 3#32
  let v65_r0 : BitVec 1 := Scalar.cmpi .eq arg5_r0 c3_i32_55_r0
  let v116_r0 : BitVec 1 := Scalar.ori v115_r0 v65_r0
  let v117_r0 : BitVec 32 := Scalar.extui v116_r0
  let c0_i32_84_r0 : BitVec 32 := 0#32
  let v118_r0 : BitVec 1 := Scalar.cmpi .ne v117_r0 c0_i32_84_r0
  v118_r0

def k0_off13 (i : grid0.Coords) (arg10_r0 : BitVec 32) : Fin 2 → Nat :=
  let c256_i32_100_r0 : BitVec 32 := 256#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let v145_r0 : BitVec 32 := Scalar.muli c256_i32_100_r0 v66_r0
  let c0_i32_103_r0 : BitVec 32 := 0#32
  ![v145_r0.toNat, 0]
def k0_off14 (arg8_r0 : BitVec 32) : Fin 1 → Nat :=
  let c2_i32_99_r0 : BitVec 32 := 2#32
  let v144_r0 : BitVec 32 := Scalar.remui arg8_r0 c2_i32_99_r0
  ![v144_r0.toNat]
def k0_off15 (arg9_r0 : BitVec 32) : Fin 3 → Nat :=
  let c2_i32_99_r0 : BitVec 32 := 2#32
  let v144_r0 : BitVec 32 := Scalar.remui arg9_r0 c2_i32_99_r0
  let c0_i32_101_r0 : BitVec 32 := 0#32
  let c0_i32_102_r0 : BitVec 32 := 0#32
  ![v144_r0.toNat, 0, 0]
def k0_cond7 (i : grid0.Coords) (k0_t1 : Fin k0_t1_loop.trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v66_r0 : BitVec 32 := Scalar.addi arg10_r0 v4
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let v71_r0 : BitVec 32 := Scalar.addi v70_r0 v4
  let v128_r0 : BitVec 1 := Scalar.cmpi .ne v66_r0 v71_r0
  let c0_i32_26_r0 : BitVec 32 := 0#32
  let c1_i32_28_r0 : BitVec 32 := 1#32
  let arg5_r0 : BitVec 32 := Scf.iv c0_i32_26_r0 c1_i32_28_r0 k0_t1
  let c0_i32_54_r0 : BitVec 32 := 0#32
  let v64_r0 : BitVec 1 := Scalar.cmpi .eq arg5_r0 c0_i32_54_r0
  let true_90_r0 : BitVec 1 := 1#1
  let v129_r0 : BitVec 1 := Scalar.xori v64_r0 true_90_r0
  let v130_r0 : BitVec 1 := Scalar.andi v128_r0 v129_r0
  let v131_r0 : BitVec 32 := Scalar.extui v130_r0
  let c0_i32_91_r0 : BitVec 32 := 0#32
  let v132_r0 : BitVec 1 := Scalar.cmpi .ne v131_r0 c0_i32_91_r0
  v132_r0

def k0_off16 (i : grid0.Coords) (arg10_r0 : BitVec 32) : Fin 2 → Nat :=
  let c256_i32_100_r0 : BitVec 32 := 256#32
  let true_57_r0 : BitVec 1 := 1#1
  let c1_i32_56_r0 : BitVec 32 := 1#32
  let v67_r0 : BitVec 32 := Scalar.subi arg10_r0 c1_i32_56_r0
  let v68_r0 : BitVec 32 := Scalar.select true_57_r0 v67_r0 arg10_r0
  let c_m1_i32_58_r0 : BitVec 32 := 4294967295#32
  let v69_r0 : BitVec 1 := Scalar.cmpi .eq v68_r0 c_m1_i32_58_r0
  let c3_i32_59_r0 : BitVec 32 := 3#32
  let v70_r0 : BitVec 32 := Scalar.select v69_r0 c3_i32_59_r0 v68_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v71_r0 : BitVec 32 := Scalar.addi v70_r0 v4
  let v145_r0 : BitVec 32 := Scalar.muli c256_i32_100_r0 v71_r0
  let c0_i32_103_r0 : BitVec 32 := 0#32
  ![v145_r0.toNat, 0]
def k0_off17 (arg9_r0 : BitVec 32) : Fin 1 → Nat :=
  let c2_i32_99_r0 : BitVec 32 := 2#32
  let v144_r0 : BitVec 32 := Scalar.remui arg9_r0 c2_i32_99_r0
  ![v144_r0.toNat]

def k0_chk1 (i : grid0.Coords) (k0_t1 : Fin k0_t1_loop.trips) (arg6_r0 : BitVec 32) (arg7_r0 : BitVec 32) (arg8_r0 : BitVec 32) (arg9_r0 : BitVec 32) (arg10_r0 : BitVec 32) : Prop :=
  (∀ (k0_h1 : k0_cond1 i k0_t1 arg10_r0 = 1#1), ∀ a, (k0_off4 arg6_r0) a + S1x1x256.size a ≤ S2x1x256.size a) ∧
  (∀ (k0_h1 : k0_cond1 i k0_t1 arg10_r0 = 1#1), ∀ a, (k0_off5 i arg10_r0) a + S1x256.size a ≤ S1x32768.size a) ∧
  (∀ (k0_h1 : k0_cond1 i k0_t1 arg10_r0 = 1#1), ∀ a, (k0_off6 arg6_r0) a + S1.size a ≤ S2.size a) ∧
  (∀ (k0_h2 : k0_cond2 i k0_t1 arg10_r0 = 1#1), ∀ a, (k0_off7 arg7_r0) a + S1x1x256.size a ≤ S2x1x256.size a) ∧
  (∀ (k0_h2 : k0_cond2 i k0_t1 arg10_r0 = 1#1), ∀ a, (k0_off8 i arg10_r0) a + S1x256.size a ≤ S1x32768.size a) ∧
  (∀ (k0_h2 : k0_cond2 i k0_t1 arg10_r0 = 1#1), ∀ a, (k0_off9 arg7_r0) a + S1.size a ≤ S2.size a) ∧
  (∀ (k0_h5 : k0_cond5 i k0_t1 arg10_r0 = 1#1), ∀ a, (k0_off12 arg8_r0) a + S1x256x128.size a ≤ S2x256x128.size a) ∧
  (∀ (k0_h5 : k0_cond5 i k0_t1 arg10_r0 = 1#1), ∀ a, (k0_off13 i arg10_r0) a + S256x128.size a ≤ S32768x128.size a) ∧
  (∀ (k0_h5 : k0_cond5 i k0_t1 arg10_r0 = 1#1), ∀ a, (k0_off14 arg8_r0) a + S1.size a ≤ S2.size a) ∧
  (∀ (k0_h7 : k0_cond7 i k0_t1 arg10_r0 = 1#1), ∀ a, (k0_off15 arg9_r0) a + S1x256x128.size a ≤ S2x256x128.size a) ∧
  (∀ (k0_h7 : k0_cond7 i k0_t1 arg10_r0 = 1#1), ∀ a, (k0_off16 i arg10_r0) a + S256x128.size a ≤ S32768x128.size a) ∧
  (∀ (k0_h7 : k0_cond7 i k0_t1 arg10_r0 = 1#1), ∀ a, (k0_off17 arg9_r0) a + S1.size a ≤ S2.size a)
theorem k0_off4_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off4 arg6_r0) a + S1x1x256.size a ≤ S2x1x256.size a := fun i k0_t1 arg6_r0 arg7_r0 arg8_r0 arg9_r0 arg10_r0 k0_hw1 k0_h1 => k0_hw1.1 k0_h1
theorem k0_off5_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off5 i arg10_r0) a + S1x256.size a ≤ S1x32768.size a := fun i k0_t1 arg6_r0 arg7_r0 arg8_r0 arg9_r0 arg10_r0 k0_hw1 k0_h1 => k0_hw1.2.1 k0_h1
theorem k0_off6_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i k0_t1 arg10_r0 = 1#1), ∀ a, (k0_off6 arg6_r0) a + S1.size a ≤ S2.size a := fun i k0_t1 arg6_r0 arg7_r0 arg8_r0 arg9_r0 arg10_r0 k0_hw1 k0_h1 => k0_hw1.2.2.1 k0_h1
theorem k0_off7_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off7 arg7_r0) a + S1x1x256.size a ≤ S2x1x256.size a := fun i k0_t1 arg6_r0 arg7_r0 arg8_r0 arg9_r0 arg10_r0 k0_hw1 k0_h2 => k0_hw1.2.2.2.1 k0_h2
theorem k0_off8_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off8 i arg10_r0) a + S1x256.size a ≤ S1x32768.size a := fun i k0_t1 arg6_r0 arg7_r0 arg8_r0 arg9_r0 arg10_r0 k0_hw1 k0_h2 => k0_hw1.2.2.2.2.1 k0_h2
theorem k0_off9_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h2 : k0_cond2 i k0_t1 arg10_r0 = 1#1), ∀ a, (k0_off9 arg7_r0) a + S1.size a ≤ S2.size a := fun i k0_t1 arg6_r0 arg7_r0 arg8_r0 arg9_r0 arg10_r0 k0_hw1 k0_h2 => k0_hw1.2.2.2.2.2.1 k0_h2
theorem k0_off12_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off12 arg8_r0) a + S1x256x128.size a ≤ S2x256x128.size a := fun i k0_t1 arg6_r0 arg7_r0 arg8_r0 arg9_r0 arg10_r0 k0_hw1 k0_h5 => k0_hw1.2.2.2.2.2.2.1 k0_h5
theorem k0_off13_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off13 i arg10_r0) a + S256x128.size a ≤ S32768x128.size a := fun i k0_t1 arg6_r0 arg7_r0 arg8_r0 arg9_r0 arg10_r0 k0_hw1 k0_h5 => k0_hw1.2.2.2.2.2.2.2.1 k0_h5
theorem k0_off14_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h5 : k0_cond5 i k0_t1 arg10_r0 = 1#1), ∀ a, (k0_off14 arg8_r0) a + S1.size a ≤ S2.size a := fun i k0_t1 arg6_r0 arg7_r0 arg8_r0 arg9_r0 arg10_r0 k0_hw1 k0_h5 => k0_hw1.2.2.2.2.2.2.2.2.1 k0_h5
theorem k0_off15_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off15 arg9_r0) a + S1x256x128.size a ≤ S2x256x128.size a := fun i k0_t1 arg6_r0 arg7_r0 arg8_r0 arg9_r0 arg10_r0 k0_hw1 k0_h7 => k0_hw1.2.2.2.2.2.2.2.2.2.1 k0_h7
theorem k0_off16_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off16 i arg10_r0) a + S256x128.size a ≤ S32768x128.size a := fun i k0_t1 arg6_r0 arg7_r0 arg8_r0 arg9_r0 arg10_r0 k0_hw1 k0_h7 => k0_hw1.2.2.2.2.2.2.2.2.2.2.1 k0_h7
theorem k0_off17_inb : ∀ (i : grid0.Coords) (k0_t1 : Fin k0_t1_loop.trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h7 : k0_cond7 i k0_t1 arg10_r0 = 1#1), ∀ a, (k0_off17 arg9_r0) a + S1.size a ≤ S2.size a := fun i k0_t1 arg6_r0 arg7_r0 arg8_r0 arg9_r0 arg10_r0 k0_hw1 k0_h7 => k0_hw1.2.2.2.2.2.2.2.2.2.2.2 k0_h7

def k0_off18 (v33_3_r0 : BitVec 32) : Fin 3 → Nat :=
  let c2_i32_46_r0 : BitVec 32 := 2#32
  let v54_r0 : BitVec 32 := Scalar.remui v33_3_r0 c2_i32_46_r0
  let c0_i32_48_r0 : BitVec 32 := 0#32
  let c0_i32_49_r0 : BitVec 32 := 0#32
  ![v54_r0.toNat, 0, 0]

def k0_off19 (i : grid0.Coords) (v33_4_r0 : BitVec 32) : Fin 2 → Nat :=
  let c256_i32_47_r0 : BitVec 32 := 256#32
  let true_31_r0 : BitVec 1 := 1#1
  let c1_i32_30_r0 : BitVec 32 := 1#32
  let v34_r0 : BitVec 32 := Scalar.subi v33_4_r0 c1_i32_30_r0
  let v35_r0 : BitVec 32 := Scalar.select true_31_r0 v34_r0 v33_4_r0
  let c_m1_i32_32_r0 : BitVec 32 := 4294967295#32
  let v36_r0 : BitVec 1 := Scalar.cmpi .eq v35_r0 c_m1_i32_32_r0
  let c3_i32_33_r0 : BitVec 32 := 3#32
  let v37_r0 : BitVec 32 := Scalar.select v36_r0 c3_i32_33_r0 v35_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 32 := Scalar.muli v3 c4_i32
  let v38_r0 : BitVec 32 := Scalar.addi v37_r0 v4
  let v55_r0 : BitVec 32 := Scalar.muli c256_i32_47_r0 v38_r0
  let c0_i32_50_r0 : BitVec 32 := 0#32
  ![v55_r0.toNat, 0]

def k0_chk5 (i : grid0.Coords) (v33_4_r0 : BitVec 32) : Prop :=
  (∀ a, (k0_off19 i v33_4_r0) a + S256x128.size a ≤ S32768x128.size a)
theorem k0_off19_inb : ∀ (i : grid0.Coords) (v33_4_r0 : BitVec 32) (k0_hw5 : k0_chk5 i v33_4_r0), ∀ a, (k0_off19 i v33_4_r0) a + S256x128.size a ≤ S32768x128.size a := fun i v33_4_r0 k0_hw5 => k0_hw5

def k0_off20 (v33_3_r0 : BitVec 32) : Fin 1 → Nat :=
  let c2_i32_46_r0 : BitVec 32 := 2#32
  let v54_r0 : BitVec 32 := Scalar.remui v33_3_r0 c2_i32_46_r0
  ![v54_r0.toNat]
def k0_off21 (v33_3_r0 : BitVec 32) : Fin 3 → Nat :=
  let c2_i32_46_r0 : BitVec 32 := 2#32
  let v54_r0 : BitVec 32 := Scalar.remui v33_3_r0 c2_i32_46_r0
  let c0_i32_52_r0 : BitVec 32 := 0#32
  let c0_i32_53_r0 : BitVec 32 := 0#32
  ![v54_r0.toNat, 0, 0]

def k0_chk4 (v33_3_r0 : BitVec 32) : Prop :=
  (∀ a, (k0_off18 v33_3_r0) a + S1x256x128.size a ≤ S2x256x128.size a) ∧
  (∀ a, (k0_off20 v33_3_r0) a + S1.size a ≤ S2.size a) ∧
  (∀ a, (k0_off21 v33_3_r0) a + S1x256x128.size a ≤ S2x256x128.size a)
theorem k0_off18_inb : ∀ (v33_3_r0 : BitVec 32) (k0_hw4 : k0_chk4 v33_3_r0), ∀ a, (k0_off18 v33_3_r0) a + S1x256x128.size a ≤ S2x256x128.size a := fun v33_3_r0 k0_hw4 => k0_hw4.1
theorem k0_off20_inb : ∀ (v33_3_r0 : BitVec 32) (k0_hw4 : k0_chk4 v33_3_r0), ∀ a, (k0_off20 v33_3_r0) a + S1.size a ≤ S2.size a := fun v33_3_r0 k0_hw4 => k0_hw4.2.1
theorem k0_off21_inb : ∀ (v33_3_r0 : BitVec 32) (k0_hw4 : k0_chk4 v33_3_r0), ∀ a, (k0_off21 v33_3_r0) a + S1x256x128.size a ≤ S2x256x128.size a := fun v33_3_r0 k0_hw4 => k0_hw4.2.2

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S8192x128 : Shape := ⟨2, ![8192, 128]⟩
abbrev S1x32768 : Shape := ⟨2, ![1, 32768]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x128 : Shape := ⟨2, ![32768, 128]⟩

abbrev nBuf : Space → Nat
  | .hbm => 26
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S1x32768, .i32⟩
  | .hbm, ⟨2, _⟩ => ⟨S32768, .i32⟩
  | .hbm, ⟨3, _⟩ => ⟨S_, .i32⟩
  | .hbm, ⟨4, _⟩ => ⟨S32768, .i32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S32768, .i32⟩
  | .hbm, ⟨10, _⟩ => ⟨S32768x1, .i32⟩
  | .hbm, ⟨11, _⟩ => ⟨S1, .i32⟩
  | .hbm, ⟨12, _⟩ => ⟨S_, .i32⟩
  | .hbm, ⟨13, _⟩ => ⟨S32768x1, .i32⟩
  | .hbm, ⟨14, _⟩ => ⟨S32768x1, .i1⟩
  | .hbm, ⟨15, _⟩ => ⟨S1x1, .i32⟩
  | .hbm, ⟨16, _⟩ => ⟨S32768x1, .i32⟩
  | .hbm, ⟨17, _⟩ => ⟨S32768x1, .i1⟩
  | .hbm, ⟨18, _⟩ => ⟨S32768x1, .i1⟩
  | .hbm, ⟨19, _⟩ => ⟨S_, .i1⟩
  | .hbm, ⟨20, _⟩ => ⟨S32768, .i1⟩
  | .hbm, ⟨21, _⟩ => ⟨S32768x128, .f32⟩
  | .hbm, ⟨22, _⟩ => ⟨S32768x128, .i1⟩
  | .hbm, ⟨23, _⟩ => ⟨S_, .f32⟩
  | .hbm, ⟨24, _⟩ => ⟨S32768x128, .f32⟩
  | .hbm, ⟨25, _⟩ => ⟨S32768x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩

abbrev nD : Nat := 1
abbrev τ : Topo := Topo.v7x

variable {F : FTy → Type} [FloatOps F]
-- ==== Finish.lean ====
abbrev S32768x128 : Shape := ⟨2, ![32768, 128]⟩
abbrev S32x64x1024 : Shape := ⟨3, ![32, 64, 1024]⟩
abbrev S32x1024x128 : Shape := ⟨3, ![32, 1024, 128]⟩
abbrev S1x1 : Shape := ⟨2, ![1, 1]⟩
abbrev S1x1024x128 : Shape := ⟨3, ![1, 1024, 128]⟩
abbrev S1x64x1024 : Shape := ⟨3, ![1, 64, 1024]⟩
abbrev S1x1024x64 : Shape := ⟨3, ![1, 1024, 64]⟩
abbrev S1024x64 : Shape := ⟨2, ![1024, 64]⟩
abbrev S64x1024 : Shape := ⟨2, ![64, 1024]⟩
abbrev S1 : Shape := ⟨1, ![1]⟩
abbrev S1x1x1 : Shape := ⟨3, ![1, 1, 1]⟩

abbrev nBuf : Space → Nat
  | .hbm => 5
  | .vmem => 6
  | .smem => 1
  | _ => 0

abbrev bufTy : (tb : Table) → Fin (tcTables nBuf tb) → BufTy
  | .hbm, ⟨0, _⟩ => ⟨S32768x128, .f32⟩
  | .hbm, ⟨1, _⟩ => ⟨S32x64x1024, .f32⟩
  | .hbm, ⟨2, _⟩ => ⟨S32x1024x128, .f32⟩
  | .hbm, ⟨3, _⟩ => ⟨S32x64x1024, .f32⟩
  | .hbm, ⟨4, _⟩ => ⟨S1x1, .f32⟩
  | .local _ .vmem, ⟨0, _⟩ => ⟨S1x1024x128, .f32⟩
  | .local _ .vmem, ⟨1, _⟩ => ⟨S1x1024x128, .f32⟩
  | .local _ .vmem, ⟨2, _⟩ => ⟨S1x64x1024, .f32⟩
  | .local _ .vmem, ⟨3, _⟩ => ⟨S1x64x1024, .f32⟩
  | .local _ .vmem, ⟨4, _⟩ => ⟨S1x64x1024, .f32⟩
  | .local _ .vmem, ⟨5, _⟩ => ⟨S1x64x1024, .f32⟩
  | .local _ .smem, ⟨0, _⟩ => ⟨S1x1, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== FinishRefIdeal.lean ====
abbrev S32768x128 : Shape := ⟨2, ![32768, 128]⟩
abbrev S32x64x1024 : Shape := ⟨3, ![32, 64, 1024]⟩
abbrev S32x1024x128 : Shape := ⟨3, ![32, 1024, 128]⟩
abbrev S32x1024x64 : Shape := ⟨3, ![32, 1024, 64]⟩
abbrev S_ : Shape := ⟨0, ![]⟩
abbrev S1x1 : Shape := ⟨2, ![1, 1]⟩

abbrev nBuf : Space → Nat
  | .hbm => 23
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S32x64x1024, .f32⟩
  | .hbm, ⟨2, _⟩ => ⟨S32x1024x128, .f32⟩
  | .hbm, ⟨3, _⟩ => ⟨S32x1024x64, .f32⟩
  | .hbm, ⟨4, _⟩ => ⟨S32x64x1024, .f32⟩
  | .hbm, ⟨5, _⟩ => ⟨S32x64x1024, .f32⟩
  | .hbm, ⟨6, _⟩ => ⟨S32x64x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S32x64x1024, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S32x64x1024, .f32⟩
  | .hbm, ⟨20, _⟩ => ⟨S_, .f32⟩
  | .hbm, ⟨21, _⟩ => ⟨S_, .f32⟩
  | .hbm, ⟨22, _⟩ => ⟨S1x1, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== Argmin.lean ====
abbrev S32x384x32x32 : Shape := ⟨4, ![32, 384, 32, 32]⟩
abbrev S64x384 : Shape := ⟨2, ![64, 384]⟩
abbrev S64 : Shape := ⟨1, ![64]⟩
abbrev S8192x64 : Shape := ⟨2, ![8192, 64]⟩
abbrev S32x384x1024 : Shape := ⟨3, ![32, 384, 1024]⟩
abbrev S64x1 : Shape := ⟨2, ![64, 1]⟩
abbrev S32x64x1024 : Shape := ⟨3, ![32, 64, 1024]⟩
abbrev S32x1x1024 : Shape := ⟨3, ![32, 1, 1024]⟩
abbrev S8192x128 : Shape := ⟨2, ![8192, 128]⟩
abbrev S1x384x1024 : Shape := ⟨3, ![1, 384, 1024]⟩
abbrev S1x64x1024 : Shape := ⟨3, ![1, 64, 1024]⟩
abbrev S1x1x1024 : Shape := ⟨3, ![1, 1, 1024]⟩
abbrev S8192x1 : Shape := ⟨2, ![8192, 1]⟩
abbrev S1024x64 : Shape := ⟨2, ![1024, 64]⟩
abbrev S1024 : Shape := ⟨1, ![1024]⟩
abbrev S1024x1 : Shape := ⟨2, ![1024, 1]⟩
abbrev S384x1024 : Shape := ⟨2, ![384, 1024]⟩
abbrev S64x1024 : Shape := ⟨2, ![64, 1024]⟩
abbrev S8x1024 : Shape := ⟨2, ![8, 1024]⟩
abbrev S1024x1024 : Shape := ⟨2, ![1024, 1024]⟩
abbrev S1x1024 : Shape := ⟨2, ![1, 1024]⟩
abbrev S128x8x1024 : Shape := ⟨3, ![128, 8, 1024]⟩
abbrev S1x8x1024 : Shape := ⟨3, ![1, 8, 1024]⟩

abbrev nBuf : Space → Nat
  | .hbm => 9
  | .vmem => 12
  | .smem => 0
  | _ => 0

abbrev bufTy : (tb : Table) → Fin (tcTables nBuf tb) → BufTy
  | .hbm, ⟨0, _⟩ => ⟨S32x384x32x32, .f32⟩
  | .hbm, ⟨1, _⟩ => ⟨S64x384, .f32⟩
  | .hbm, ⟨2, _⟩ => ⟨S64, .f32⟩
  | .hbm, ⟨3, _⟩ => ⟨S8192x64, .f32⟩
  | .hbm, ⟨4, _⟩ => ⟨S32x384x1024, .f32⟩
  | .hbm, ⟨5, _⟩ => ⟨S64x1, .f32⟩
  | .hbm, ⟨6, _⟩ => ⟨S32x64x1024, .f32⟩
  | .hbm, ⟨7, _⟩ => ⟨S32x1x1024, .i32⟩
  | .hbm, ⟨8, _⟩ => ⟨S8192x128, .f32⟩
  | .local _ .vmem, ⟨0, _⟩ => ⟨S1x384x1024, .f32⟩
  | .local _ .vmem, ⟨1, _⟩ => ⟨S1x384x1024, .f32⟩
  | .local _ .vmem, ⟨2, _⟩ => ⟨S64x384, .f32⟩
  | .local _ .vmem, ⟨3, _⟩ => ⟨S64x1, .f32⟩
  | .local _ .vmem, ⟨4, _⟩ => ⟨S8192x64, .f32⟩
  | .local _ .vmem, ⟨5, _⟩ => ⟨S1x64x1024, .f32⟩
  | .local _ .vmem, ⟨6, _⟩ => ⟨S1x64x1024, .f32⟩
  | .local _ .vmem, ⟨7, _⟩ => ⟨S1x1x1024, .i32⟩
  | .local _ .vmem, ⟨8, _⟩ => ⟨S1x1x1024, .i32⟩
  | .local _ .vmem, ⟨9, _⟩ => ⟨S8192x128, .f32⟩
  | .local _ .vmem, ⟨10, _⟩ => ⟨S8192x64, .f32⟩
  | .local _ .vmem, ⟨11, _⟩ => ⟨S8192x1, .f32⟩
  | _, _ => ⟨S32x384x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8192x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ArgminRefIdeal.lean ====
abbrev S32x384x32x32 : Shape := ⟨4, ![32, 384, 32, 32]⟩
abbrev S64x384 : Shape := ⟨2, ![64, 384]⟩
abbrev S64 : Shape := ⟨1, ![64]⟩
abbrev S8192x64 : Shape := ⟨2, ![8192, 64]⟩
abbrev S64x32x32x32 : Shape := ⟨4, ![64, 32, 32, 32]⟩
abbrev S32x64x32x32 : Shape := ⟨4, ![32, 64, 32, 32]⟩
abbrev S1x64x1x1 : Shape := ⟨4, ![1, 64, 1, 1]⟩
abbrev S32x32x32x64 : Shape := ⟨4, ![32, 32, 32, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S64x8192 : Shape := ⟨2, ![64, 8192]⟩
abbrev S32768x8192 : Shape := ⟨2, ![32768, 8192]⟩
abbrev S8192 : Shape := ⟨1, ![8192]⟩
abbrev S1x8192 : Shape := ⟨2, ![1, 8192]⟩
abbrev S8192x128 : Shape := ⟨2, ![8192, 128]⟩
abbrev S32x64x1024 : Shape := ⟨3, ![32, 64, 1024]⟩
abbrev S32x1x1024 : Shape := ⟨3, ![32, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S32x384x32x32, .f32⟩
  | .hbm, ⟨1, _⟩ => ⟨S64x384, .f32⟩
  | .hbm, ⟨2, _⟩ => ⟨S64, .f32⟩
  | .hbm, ⟨3, _⟩ => ⟨S8192x64, .f32⟩
  | .hbm, ⟨4, _⟩ => ⟨S64x32x32x32, .f32⟩
  | .hbm, ⟨5, _⟩ => ⟨S32x64x32x32, .f32⟩
  | .hbm, ⟨6, _⟩ => ⟨S1x64x1x1, .f32⟩
  | .hbm, ⟨7, _⟩ => ⟨S32x64x32x32, .f32⟩
  | .hbm, ⟨8, _⟩ => ⟨S32x64x32x32, .f32⟩
  | .hbm, ⟨9, _⟩ => ⟨S32x32x32x64, .f32⟩
  | .hbm, ⟨10, _⟩ => ⟨S32768x64, .f32⟩
  | .hbm, ⟨11, _⟩ => ⟨S32768x64, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x64, .f32⟩
  | .hbm, ⟨17, _⟩ => ⟨S32768x64, .f32⟩
  | .hbm, ⟨18, _⟩ => ⟨S64x8192, .f32⟩
  | .hbm, ⟨19, _⟩ => ⟨S32768x8192, .f32⟩
  | .hbm, ⟨20, _⟩ => ⟨S32768x8192, .f32⟩
  | .hbm, ⟨21, _⟩ => ⟨S32768x8192, .f32⟩
  | .hbm, ⟨22, _⟩ => ⟨S8192x64, .f32⟩
  | .hbm, ⟨23, _⟩ => ⟨S_, .f32⟩
  | .hbm, ⟨24, _⟩ => ⟨S8192, .f32⟩
  | .hbm, ⟨25, _⟩ => ⟨S1x8192, .f32⟩
  | .hbm, ⟨26, _⟩ => ⟨S32768x8192, .f32⟩
  | .hbm, ⟨27, _⟩ => ⟨S32768x8192, .f32⟩
  | .hbm, ⟨28, _⟩ => ⟨S32768x8192, .f32⟩
  | .hbm, ⟨29, _⟩ => ⟨S32768x8192, .i32⟩
  | .hbm, ⟨30, _⟩ => ⟨S_, .f32⟩
  | .hbm, ⟨31, _⟩ => ⟨S_, .i32⟩
  | .hbm, ⟨32, _⟩ => ⟨S32768, .f32⟩
  | .hbm, ⟨33, _⟩ => ⟨S32768, .i32⟩
  | .hbm, ⟨34, _⟩ => ⟨S_, .i32⟩
  | .hbm, ⟨35, _⟩ => ⟨S_, .f32⟩
  | .hbm, ⟨36, _⟩ => ⟨S8192x128, .f32⟩
  | .hbm, ⟨37, _⟩ => ⟨S32x64x1024, .f32⟩
  | .hbm, ⟨38, _⟩ => ⟨S32x1x1024, .i32⟩
  | _, _ => ⟨S32x384x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v22 : Ref sig .tc := ⟨.hbm, 33, rfl⟩
abbrev main_c : Ref sig .tc := ⟨.hbm, 34, rfl⟩
abbrev main_call1_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Proof.Words.lean ====
/-
  The gather kernel's index arithmetic in closed form. Each of its 32 vector subcores (16 tiles on each of two
  SparseCores) serves four consecutive windows of 256 indices. The kernel carries five counters around its loop: the
  numbers of index copies issued and awaited, of row copies issued and awaited, and the window's number within the
  tile. Before trip `k` these are `min (k + 1) 4`, `k`, `k`, `k - 1` and `k mod 4`, and the slices, conditions and
  range checks that the kernel computes from them are decided here once for all trips and all tiles.
-/
module

public import proofs.«01_k».proof.Proof.Gen.KernelIdeal
public import proofs.«01_k».proof.Proof.Gen.KernelIdeal.Skeleton

@[expose] public section

noncomputable section

namespace Cert.Proof.Gather

open Cert.KernelIdeal Cert.KernelIdeal.Gen
open Idealize.ShloMosaic

/-- The loop makes four trips. -/
theorem trips_eq : k0_t1_loop.trips = 4 := by decide +kernel

/-- The loop's counters before trip `k`. -/
abbrev wIssued (k : ℕ) : BitVec 32 := BitVec.ofNat 32 (min (k + 1) 4)
abbrev wTrip (k : ℕ) : BitVec 32 := BitVec.ofNat 32 k
abbrev wPrev (k : ℕ) : BitVec 32 := BitVec.ofNat 32 (k - 1)
abbrev wStep (k : ℕ) : BitVec 32 := BitVec.ofNat 32 (k % 4)

/-- The five counters before trip `k`, as the loop carries them. -/
abbrev counters (k : ℕ) : BitVec 32 × BitVec 32 × BitVec 32 × BitVec 32 × BitVec 32 :=
  (wIssued k, wTrip k, wTrip k, wPrev k, wStep k)

/-- The number of the first index of tile `i`'s window `k`. -/
abbrev base (i : grid0.Coords) (k : ℕ) : ℕ := 1024 * (i 1).val + 16384 * (i 0).val + 256 * k

/-! ## Slots of the two double buffers -/

theorem off4_eq : ∀ k : Fin 4, k.val < 3 → k0_off4 (wIssued k) = ![(k.val + 1) % 2, 0, 0] := by decide +kernel
theorem off6_eq : ∀ k : Fin 4, k.val < 3 → k0_off6 (wIssued k) = ![(k.val + 1) % 2] := by decide +kernel
theorem off7_eq : ∀ k : Fin 4, k0_off7 (wTrip k) = ![k.val % 2, 0, 0] := by decide +kernel
theorem off9_eq : ∀ k : Fin 4, k0_off9 (wTrip k) = ![k.val % 2] := by decide +kernel
theorem off10_eq : ∀ k : Fin 4, k0_off10 (wTrip k) = ![k.val % 2, 0, 0] := by decide +kernel
theorem off11_eq : ∀ k : Fin 4, k0_off11 (wTrip k) = ![k.val % 2, 0, 0] := by decide +kernel
theorem off12_eq : ∀ k : Fin 4, k0_off12 (wTrip k) = ![k.val % 2, 0, 0] := by decide +kernel
theorem off14_eq : ∀ k : Fin 4, k0_off14 (wTrip k) = ![k.val % 2] := by decide +kernel
theorem off15_eq : ∀ k : Fin 4, 1 ≤ k.val → k0_off15 (wPrev k) = ![(k.val + 1) % 2, 0, 0] := by decide +kernel
theorem off17_eq : ∀ k : Fin 4, 1 ≤ k.val → k0_off17 (wPrev k) = ![(k.val + 1) % 2] := by decide +kernel
theorem off20_eq : k0_off20 (wPrev 4) = ![1] := by decide +kernel
theorem off21_eq : k0_off21 (wPrev 4) = ![1, 0, 0] := by decide +kernel

/-! ## Windows of the index list and of the result -/

theorem off5_eq : ∀ (i : grid0.Coords) (k : Fin 4), k.val < 3 → k0_off5 i (wStep k) = ![0, base i (k.val + 1)] := by decide +kernel
theorem off8_eq : ∀ (i : grid0.Coords) (k : Fin 4), k0_off8 i (wStep k) = ![0, base i k.val] := by decide +kernel
theorem off13_eq : ∀ (i : grid0.Coords) (k : Fin 4), k0_off13 i (wStep k) = ![base i k.val, 0] := by decide +kernel
theorem off16_eq : ∀ (i : grid0.Coords) (k : Fin 4), 1 ≤ k.val → k0_off16 i (wStep k) = ![base i (k.val - 1), 0] := by decide +kernel
theorem off19_eq : ∀ i : grid0.Coords, k0_off19 i (wStep 4) = ![base i 3, 0] := by decide +kernel

/-! ## The conditions -/

/-- A trip's number, as the loop's own index type has it. -/
abbrev tripOf (k : Fin 4) : Fin k0_t1_loop.trips := Fin.cast trips_eq.symm k

/-- The next window's indices are fetched on every trip but the last. -/
theorem cond1_iff : ∀ (i : grid0.Coords) (k : Fin 4), (k0_cond1 i (tripOf k) (wStep k) = 1#1) ↔ k.val < 3 := by decide +kernel
/-- The window's own indices are awaited on every trip, -/
theorem cond2_eq : ∀ (i : grid0.Coords) (k : Fin 4), k0_cond2 i (tripOf k) (wStep k) = 1#1 := by decide +kernel
/-- and its rows are written back on every trip. -/
theorem cond5_eq : ∀ (i : grid0.Coords) (k : Fin 4), k0_cond5 i (tripOf k) (wStep k) = 1#1 := by decide +kernel
/-- The previous window's write-back is awaited on every trip but the first. -/
theorem cond7_iff : ∀ (i : grid0.Coords) (k : Fin 4), (k0_cond7 i (tripOf k) (wStep k) = 1#1) ↔ 1 ≤ k.val := by decide +kernel

/-! ## The range checks -/

theorem chk1 : ∀ (i : grid0.Coords) (k : Fin 4), k0_chk1 i (tripOf k) (wIssued k) (wTrip k) (wTrip k) (wPrev k) (wStep k) := by
  unfold k0_chk1; decide +kernel
theorem chk2 : ∀ k : Fin 4, k0_chk2 (wTrip k) := by unfold k0_chk2; decide +kernel
theorem chk3 : ∀ k : Fin 4, k0_chk3 (wTrip k) := by unfold k0_chk3; decide +kernel
theorem chk4 : k0_chk4 (wPrev 4) := by unfold k0_chk4; decide +kernel
theorem chk5 : ∀ i : grid0.Coords, k0_chk5 i (wStep 4) := by unfold k0_chk5; decide +kernel

end Cert.Proof.Gather

end
-- ==== Proof.Pieces.lean ====
/-
  The pieces of memory that one tile of the gather works with, and what each holds. A tile's two double buffers are cut
  into their slots, the index list and the result into windows; a slot of the index buffer is full (it reads one
  window's indices), free, or being filled, and likewise a slot of the row buffer. The rows that the kernel is to
  deliver are `gathered`: row `r` of the result is the table's row at index `r`, and `gather_read` says that the
  indirect copy of a slot's indices delivers exactly the window's part of it.
-/
module

public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCoords
public import Idealize.ShloMosaic.Lib.VecWindow

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

/-! ## The program's machine, and the resources of its proof -/

abbrev ΛP : Labels := Pipeline.Sig Λ₀ (Fin 0) fun p => (pcfgs (F := F) p).Adm
abbrev K : SparseCore.Cfg τ sig (ΛP (F := F)) 1 := sc (F := F)
abbrev 𝒱₀ : Variants := Variants.none
abbrev UH : Type := URounds (GSem nD τ sig) ℕ
abbrev UU : Type := UH × Counters

local notation "𝕄" => MT nD τ sig (HIx 1) (Elt F) ℕ UU ℕ

/-! ## A tile's memory, cut into the pieces that its copies name -/

/-- The SparseCore and the tile of grid point `L`, and its thread on device `d`. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev xLoc (d : Dev nD) : Loc nD τ sig := (SparseCore.T d).loc main_arg0
abbrev iLoc (d : Dev nD) : Loc nD τ sig := (SparseCore.T d).loc main_arg1
abbrev oLoc (d : Dev nD) : Loc nD τ sig := (SparseCore.T d).loc main_v0

/-- The table, the index list and the result as a tile addresses them; its two double buffers. -/
abbrev xV : Memref sig .scVector .hbm S8192x128 .f32 := Memref.whole main_arg0_scv
abbrev iV : Memref sig .scVector .hbm S1x32768 .i32 := Memref.whole main_arg1_scv
abbrev oV : Memref sig .scVector .hbm S32768x128 .f32 := Memref.whole main_v0_scv
abbrev inV : Memref sig .scVector .vmem S2x1x256 .i32 := Memref.whole cc0_scoped0
abbrev outV : Memref sig .scVector .vmem S2x256x128 .f32 := Memref.whole cc0_scoped2

/-- The slot that window `k` uses in either double buffer. -/
abbrev sl (k : ℕ) : Fin 2 := ⟨k % 2, Nat.mod_lt _ (by decide)⟩

theorem inM_inb : ∀ s : Fin 2, ∀ a, (![s.val, 0, 0] : Fin 3 → ℕ) a + S1x1x256.size a ≤ S2x1x256.size a := by decide
theorem outM_inb : ∀ s : Fin 2, ∀ a, (![s.val, 0, 0] : Fin 3 → ℕ) a + S1x256x128.size a ≤ S2x256x128.size a := by decide
theorem sem_inb : ∀ s : Fin 2, ∀ a, (![s.val] : Fin 1 → ℕ) a + S1.size a ≤ S2.size a := by decide
theorem idxM_inb : ∀ (L : grid0.Coords) (k : Fin 4), ∀ a, (![0, base L k.val] : Fin 2 → ℕ) a + S1x256.size a ≤ S1x32768.size a := by decide +kernel
theorem resM_inb : ∀ (L : grid0.Coords) (k : Fin 4), ∀ a, (![base L k.val, 0] : Fin 2 → ℕ) a + S256x128.size a ≤ S32768x128.size a := by decide +kernel

/-- Slot `s` of the index buffer, and of the row buffer; their semaphores. -/
abbrev inM (s : Fin 2) : Memref sig .scVector .vmem S1x256 .i32 :=
  ((inV).slice (Rect.unit (s := S2x1x256) ![s.val, 0, 0] S1x1x256.size (inM_inb s)) (fun _ => rfl)).squeeze S1x256 squeezes_S1x1x256_S1x256
abbrev outM (s : Fin 2) : Memref sig .scVector .vmem S256x128 .f32 :=
  ((outV).slice (Rect.unit (s := S2x256x128) ![s.val, 0, 0] S1x256x128.size (outM_inb s)) (fun _ => rfl)).squeeze S256x128 squeezes_S1x256x128_S256x128
abbrev inSem (s : Fin 2) : DmaSem sig :=
  (((cc0_scoped1).slice (Rect.unit (s := S2) ![s.val] S1.size (sem_inb s))).squeeze S_ squeezes_S1_S_).sem
abbrev outSem (s : Fin 2) : DmaSem sig :=
  (((cc0_scoped3).slice (Rect.unit (s := S2) ![s.val] S1.size (sem_inb s))).squeeze S_ squeezes_S1_S_).sem

/-- Window `k` of tile `L`: its indices, and its rows of the result. -/
abbrev idxM (L : grid0.Coords) (k : Fin 4) : Memref sig .scVector .hbm S1x256 .i32 :=
  (iV).slice (Rect.unit (s := S1x32768) ![0, base L k.val] S1x256.size (idxM_inb L k)) (fun _ => rfl)
abbrev resM (L : grid0.Coords) (k : Fin 4) : Memref sig .scVector .hbm S256x128 .f32 :=
  (oV).slice (Rect.unit (s := S32768x128) ![base L k.val, 0] S256x128.size (resM_inb L k)) (fun _ => rfl)

/-- A slice at offsets that are a slot's, or a window's, is that slot or window. -/
theorem inM_of {o : Fin 3 → ℕ} {s : Fin 2} (h : o = ![s.val, 0, 0]) (p : ∀ a, o a + S1x1x256.size a ≤ S2x1x256.size a) :
    ((inV).slice (Rect.unit (s := S2x1x256) o S1x1x256.size p) (fun _ => rfl)).squeeze S1x256 squeezes_S1x1x256_S1x256 = inM s := by
  subst h; rfl
theorem outM_of {o : Fin 3 → ℕ} {s : Fin 2} (h : o = ![s.val, 0, 0]) (p : ∀ a, o a + S1x256x128.size a ≤ S2x256x128.size a) :
    ((outV).slice (Rect.unit (s := S2x256x128) o S1x256x128.size p) (fun _ => rfl)).squeeze S256x128 squeezes_S1x256x128_S256x128 = outM s := by
  subst h; rfl
theorem inSem_of {o : Fin 1 → ℕ} {s : Fin 2} (h : o = ![s.val]) (p : ∀ a, o a + S1.size a ≤ S2.size a) :
    (((cc0_scoped1).slice (Rect.unit (s := S2) o S1.size p)).squeeze S_ squeezes_S1_S_).sem = inSem s := by
  subst h; rfl
theorem outSem_of {o : Fin 1 → ℕ} {s : Fin 2} (h : o = ![s.val]) (p : ∀ a, o a + S1.size a ≤ S2.size a) :
    (((cc0_scoped3).slice (Rect.unit (s := S2) o S1.size p)).squeeze S_ squeezes_S1_S_).sem = outSem s := by
  subst h; rfl
theorem idxM_of {o : Fin 2 → ℕ} {L : grid0.Coords} {k : Fin 4} (h : o = ![0, base L k.val]) (p : ∀ a, o a + S1x256.size a ≤ S1x32768.size a) :
    (iV).slice (Rect.unit (s := S1x32768) o S1x256.size p) (fun _ => rfl) = idxM L k := by
  subst h; rfl
theorem resM_of {o : Fin 2 → ℕ} {L : grid0.Coords} {k : Fin 4} (h : o = ![base L k.val, 0]) (p : ∀ a, o a + S256x128.size a ≤ S32768x128.size a) :
    (oV).slice (Rect.unit (s := S32768x128) o S256x128.size p) (fun _ => rfl) = resM L k := by
  subst h; rfl

/-- Counter `g` of tile `L` reads zero. -/
abbrev sem0 (d : Dev nD) (L : grid0.Coords) (g : DmaSem sig) : sProp 𝕄 := semVal (thr d L, SemLoc.dma g) 0

section Tile

/-- The rows to deliver: row `r` is the table's row at the list's entry `r`. An entry past the table, which the
    precondition excludes, is read as the last row. -/
def gathered (I : S1x32768.Idx → Elt F .i32) (X : S8192x128.Idx → Elt F .f32) : S32768x128.Idx → Elt F .f32 :=
  fun r => X (ix2 ⟨min (I (ix2 0 (r 0))).toNat 8191, by omega⟩ (r 1))

variable (d : Dev nD) (L : grid0.Coords) (I : Buf (Elt F) (iLoc d)) (X : Buf (Elt F) (xLoc d))

/-- The piece of a buffer that `M` names, held outright at contents `f`. -/
abbrev own {sp : Space} {s : Shape} {e : EltTy} (M : Memref sig .scVector sp s e) (f : Buf (Elt F) (M.view.loc (thr d L))) : sProp 𝕄 :=
  M.view.loc (thr d L) ↦[M.view.set]{fullShare} f

/-- Window `k`'s indices, at the index list's contents. -/
abbrev idxPts (k : Fin 4) : sProp 𝕄 := own d L (idxM L k) I
/-- Slot `s` of the index buffer holds window `k`'s indices. -/
def inFull (s : Fin 2) (k : Fin 4) : sProp 𝕄 :=
  iprop(∃ f, ⌜(inM s).view.read (Elt F) f = (idxM L k).view.read (Elt F) I⌝ ∗ own d L (inM s) f)
/-- Slot `s` of the index buffer is free, its semaphore at zero. -/
def inFree (s : Fin 2) : sProp 𝕄 := iprop((∃ f, own d L (inM s) f) ∗ sem0 d L (inSem s))
/-- Window `k`'s indices are on their way into slot `s`. -/
def inFlight (s : Fin 2) (k : Fin 4) : sProp 𝕄 :=
  Transfers.Flight countersEmb (thr d L) (.dma (inSem s)) (default : HIx 1) (inM s).view.dmaCredit iprop(inFull d L I s k ∗ idxPts d L I k)
/-- The index buffer's slot for window `p`: on its way while there is such a window, free afterwards. -/
def inRole (p : ℕ) : sProp 𝕄 := if h : p < 4 then inFlight d L I (sl p) ⟨p, h⟩ else inFree d L (sl p)

/-- The windows of indices that are in no slot of the buffer before the number `k`, and after `k + 1`'s fetch. -/
def idxHome (k : ℕ) : sProp 𝕄 := bigSep (Finset.univ.filter fun j : Fin 4 => j.val ≠ k) fun j => idxPts d L I j
def idxRest (k : ℕ) : sProp 𝕄 := bigSep (Finset.univ.filter fun j : Fin 4 => j.val ≠ k ∧ j.val ≠ k + 1) fun j => idxPts d L I j

theorem idxHome_out : ∀ (k : Fin 4) (h : k.val < 3), idxHome d L I k.val = iprop(idxPts d L I ⟨k.val + 1, by omega⟩ ∗ idxRest d L I k.val) := by
  intro k h
  unfold idxHome idxRest
  rw [SparseCore.bigSep_erase' (i := (⟨k.val + 1, by omega⟩ : Fin 4)) (by simp)]
  congr 2; ext j; revert k; decide +revert

theorem idxHome_last : idxHome d L I 3 = idxRest d L I 3 := by
  unfold idxHome idxRest; congr 1

theorem idxHome_in (k : Fin 4) : idxHome d L I (k.val + 1) = iprop(idxPts d L I k ∗ idxRest d L I k.val) := by
  unfold idxHome idxRest
  rw [SparseCore.bigSep_erase' (i := k) (by simp)]
  congr 2; ext j; revert k; decide +revert

/-- Slot `s` of the row buffer holds window `k`'s rows; it is free; its rows are on their way to the result. -/
def outFull (s : Fin 2) (k : Fin 4) : sProp 𝕄 :=
  iprop(∃ f, ⌜(outM s).view.read (Elt F) f = (resM L k).view.read (Elt F) (gathered I X)⌝ ∗ own d L (outM s) f)
def outFree (s : Fin 2) : sProp 𝕄 := iprop((∃ f, own d L (outM s) f) ∗ sem0 d L (outSem s))
abbrev resPts (k : Fin 4) (g : Buf (Elt F) (oLoc d)) : sProp 𝕄 := own d L (resM L k) g
def outFlight (s : Fin 2) (k : Fin 4) : sProp 𝕄 :=
  iprop(∃ f, Transfers.Flight countersEmb (thr d L) (.dma (outSem s)) (default : HIx 1) (resM L k).view.dmaCredit
    iprop(resPts d L k (gathered I X) ∗ own d L (outM s) f))
/-- The row buffer's slot for window `k - 1`: its rows on their way from window 1 on, free before. -/
def outRole (k : ℕ) : sProp 𝕄 :=
  if h : 1 ≤ k ∧ k ≤ 4 then outFlight d L I X (sl (k + 1)) ⟨k - 1, by omega⟩ else outFree d L (sl (k + 1))
/-- The result's windows still as they were (`k` and later), and those delivered (before `k - 1`). -/
def outTodo (O0 : Buf (Elt F) (oLoc d)) (k : ℕ) : sProp 𝕄 := bigSep (Finset.univ.filter fun j : Fin 4 => k ≤ j.val) fun j => resPts d L j O0
def outDone (k : ℕ) : sProp 𝕄 := bigSep (Finset.univ.filter fun j : Fin 4 => j.val + 1 < k) fun j => resPts d L j (gathered I X)

theorem outTodo_step (O0 : Buf (Elt F) (oLoc d)) (k : Fin 4) :
    outTodo d L O0 k.val = iprop(resPts d L k O0 ∗ outTodo d L O0 (k.val + 1)) := by
  unfold outTodo
  rw [SparseCore.bigSep_erase' (i := k) (by simp)]
  congr 2; ext j; revert k; decide +revert

theorem outDone_step : ∀ (k : Fin 4) (h : 1 ≤ k.val),
    outDone d L I X (k.val + 1) = iprop(resPts d L ⟨k.val - 1, by omega⟩ (gathered I X) ∗ outDone d L I X k.val) := by
  intro k h
  unfold outDone
  rw [SparseCore.bigSep_erase' (i := (⟨k.val - 1, by omega⟩ : Fin 4)) (by simp only [Finset.mem_filter, Finset.mem_univ, true_and]; omega)]
  congr 2; ext j; revert k; decide +revert

theorem outDone_first : outDone d L I X 1 = outDone d L I X 0 := by
  unfold outDone; congr 1

/-- Entry `k` of a slot's list, in row-major order, is the slot's entry `k`. -/
theorem slot_entry : ∀ k : Fin 256, Shape.reshapeEquiv squeezes_S1x256_S256.numel_eq (S256.rowMajor.symm (k.cast (by decide))) = (ix2 (0 : Fin 1) k : S1x256.Idx) := by
  decide +kernel

/-- A slot's list, as the indirect copy reads it. -/
abbrev offsM (s : Fin 2) : Memref sig .scVector .vmem S256 .i32 :=
  ((inM s).slice (Rect.unit (s := S1x256) ![0, 0] S1x256.size inb_S1x256_S1x256_0_0) (fun _ => rfl)).squeeze S256 squeezes_S1x256_S256
/-- The table, as the indirect copy reads it. -/
abbrev xAll : Memref sig .scVector .hbm S8192x128 .f32 :=
  (xV).slice (Rect.unit (s := S8192x128) ![0, 0] S8192x128.size inb_S8192x128_S8192x128_0_0) (fun _ => rfl)

/-- The words of a full slot's list are in range where the index list's are. -/
theorem offs_lt {s : Fin 2} {k : Fin 4} (hI : ∀ j, (I j).toNat < 8192) {f : (inM s).view.ty.Contents (Elt F)}
    (hf : (inM s).view.read (Elt F) f = (idxM L k).view.read (Elt F) I) :
    ∀ x, ((offsM s).view.read (Elt F) f x).toNat < S8192x128.size gathers_S8192x128_S256x128.axis := by
  intro x
  rw [Memref.read_squeeze_full, hf]
  exact hI _

/-- The indirect copy of window `k`'s indices delivers window `k` of the rows `gathered`. -/
theorem gather_read {s : Fin 2} {k : Fin 4} (hI : ∀ j, (I j).toNat < 8192) {f : (inM s).view.ty.Contents (Elt F)}
    (hf : (inM s).view.read (Elt F) f = (idxM L k).view.read (Elt F) I) (hn : S256.numel = S256x128.size gathers_S8192x128_S256x128.axis')
    (hin : ∀ x, ((offsM s).view.read (Elt F) f x).toNat < S8192x128.size gathers_S8192x128_S256x128.axis) :
    SparseCore.gatherPayload gathers_S8192x128_S256x128 ((xAll).view.read (Elt F) X) (SparseCore.rows ((offsM s).view.read (Elt F) f) hn hin)
      = (resM L k).view.read (Elt F) (gathered I X) := by
  have hr : ∀ a : Fin 256, (SparseCore.rows ((offsM s).view.read (Elt F) f) hn hin a).val = (I (ix2 0 ⟨base L k.val + a.val, by
      have := idxM_inb L k 1; simp [S1x256, S1x32768] at this; omega⟩)).toNat := by
    intro a
    show ((offsM s).view.read (Elt F) f (S256.rowMajor.symm _)).toNat = _
    rw [Memref.read_squeeze_full]
    rw [hf]
    refine congrArg BitVec.toNat ((congrArg ((idxM L k).view.read (Elt F) I) (slot_entry a)).trans ?_)
    refine congrArg I (funext fun b => Fin.ext ?_)
    match b with
    | 0 => rfl
    | 1 => show base L k.val + 1 * a.val = base L k.val + a.val; omega
  funext j
  refine congrArg X (funext fun b => Fin.ext ?_)
  match b with
  | 0 =>
    refine ((Nat.zero_add _).trans (Nat.one_mul _)).trans ((hr (j 0)).trans ?_)
    refine (Nat.min_eq_left (Nat.le_pred_of_lt (hI _))).symm.trans ?_
    refine congrArg (fun n => min (BitVec.toNat (I n)) 8191) (funext fun c => Fin.ext ?_)
    match c with
    | 0 => rfl
    | 1 => show base L k.val + (j 0).val = base L k.val + 1 * (j 0).val; omega
  | 1 => show 0 + 1 * (j 1).val = 0 + 1 * (j 1).val; rfl

end Tile

end Cert.Proof.Gather

end
-- ==== Proof.Parts.lean ====
/-
  The two parts that the kernel's loop body is cut into. The first starts the copy of the next window's indices; the
  second awaits the window's own indices and gathers their rows.
-/
module

public import proofs.«01_k».proof.Proof.Pieces

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

local notation "𝕄" => MT nD τ sig (HIx 1) (Elt F) ℕ UU ℕ

/-! ## The words that a trip hands from one part to the next -/

/-- The kernel's tile base: the number of the tile's first window. -/
abbrev tileBase (i : grid0.Coords) : BitVec 32 :=
  Scalar.muli (Scalar.addi (Scalar.addi 0#32 (Scalar.muli (BitVec.ofNat 32 (i 1).val) 1#32)) (Scalar.muli (BitVec.ofNat 32 (i 0).val) 16#32)) 4#32

/-- The trip's number, and whether it is the first, the last. -/
abbrev w5 (k : Fin 4) : BitVec 32 := Scf.iv 0#32 1#32 (tripOf k)
abbrev w64 (k : Fin 4) : BitVec 1 := Scalar.cmpi .eq (w5 k) 0#32
abbrev w65 (k : Fin 4) : BitVec 1 := Scalar.cmpi .eq (w5 k) 3#32
/-- The numbers of the trip's window, of the one before it and of the one after it. -/
abbrev w66 (L : grid0.Coords) (k : Fin 4) : BitVec 32 := Scalar.addi (wStep k) (tileBase L)
abbrev w68 (k : Fin 4) : BitVec 32 := Scalar.select 1#1 (Scalar.subi (wStep k) 1#32) (wStep k)
abbrev w71 (L : grid0.Coords) (k : Fin 4) : BitVec 32 := Scalar.addi (Scalar.select (Scalar.cmpi .eq (w68 k) 4294967295#32) 3#32 (w68 k)) (tileBase L)
abbrev w73 (k : Fin 4) : BitVec 32 := Scalar.select 1#1 (Scalar.addi (wStep k) 1#32) (wStep k)
abbrev w76 (L : grid0.Coords) (k : Fin 4) : BitVec 32 := Scalar.addi (Scalar.select (Scalar.cmpi .eq (w73 k) 4#32) 0#32 (w73 k)) (tileBase L)
/-- The number of index copies issued after the trip's, and whether the trip's window is not the one before it. -/
abbrev w91 (L : grid0.Coords) (k : Fin 4) : BitVec 32 :=
  Scalar.select (Scalar.andi (Scalar.andi (Scalar.cmpi .ne (w66 L k) (w76 L k)) (Scalar.xori (Scalar.cmpi .sge (w5 k) 3#32) 1#1)) 1#1) (Scalar.addi (wIssued k) 1#32) (wIssued k)
abbrev w96 (L : grid0.Coords) (k : Fin 4) : BitVec 1 := Scalar.cmpi .ne (w66 L k) (w71 L k)

/-- The three conditions whose regions are empty. -/
theorem w107_eq : ∀ (L : grid0.Coords) (k : Fin 4),
    Scalar.cmpi .ne (Scalar.extui (Scalar.andi (Scalar.ori (Scalar.cmpi .ne (w66 L k) (w71 L k)) (w64 k)) (Scalar.cmpi .sge (w5 k) 0#32)) : BitVec 32) 0#32 = 1#1 := by
  decide +kernel
theorem w113_eq : ∀ (L : grid0.Coords) (k : Fin 4),
    Scalar.cmpi .ne (Scalar.extui (Scalar.ori (Scalar.cmpi .ne (w66 L k) (w76 L k)) (w65 k)) : BitVec 32) 0#32 = 1#1 := by
  decide +kernel
theorem w126_iff : ∀ (L : grid0.Coords) (k : Fin 4),
    (Scalar.cmpi .ne (Scalar.extui (Scalar.andi (Scalar.cmpi .ne (w66 L k) (w71 L k)) (Scalar.xori (w64 k) 1#1)) : BitVec 32) 0#32 = 1#1) ↔ 1 ≤ k.val := by
  decide +kernel

/-- What the first part returns. -/
abbrev res1 (L : grid0.Coords) (k : Fin 4) :
    Σ' (_ : k0_chk3 (wTrip k)) (_ : k0_chk2 (wTrip k)) (_ : k0_chk1 L (tripOf k) (wIssued k) (wTrip k) (wTrip k) (wPrev k) (wStep k))
      (_ : BitVec 32) (_ : BitVec 1) (_ : BitVec 1) (_ : BitVec 32) (_ : BitVec 32) (_ : BitVec 32) (_ : BitVec 32), BitVec 1 :=
  ⟨chk3 k, chk2 k, chk1 L k, w5 k, w64 k, w65 k, w66 L k, w71 L k, w76 L k, w91 L k, w96 L k⟩

/-- The counters that a trip leaves are the next trip's. -/
theorem counters_step : ∀ (L : grid0.Coords) (k : Fin 4),
    ((w91 L k,
      Scalar.select (Scalar.ori (Scalar.cmpi .ne (w66 L k) (w76 L k)) (w65 k)) (Scalar.addi (wTrip k) 1#32) (wTrip k),
      Scalar.select (Scalar.andi (Scalar.ori (Scalar.cmpi .ne (w66 L k) (w76 L k)) (w65 k)) 1#1) (Scalar.addi (wTrip k) 1#32) (wTrip k),
      Scalar.select (Scalar.andi (Scalar.andi (Scalar.cmpi .ne (w66 L k) (w71 L k)) (Scalar.xori (w64 k) 1#1)) 1#1) (Scalar.addi (wPrev k) 1#32) (wPrev k),
      Scalar.select (Scalar.cmpi .eq (w73 k) 4#32) 0#32 (w73 k)) : BitVec 32 × BitVec 32 × BitVec 32 × BitVec 32 × BitVec 32)
      = counters (k.val + 1) := by
  decide +kernel

theorem sl_two (k : ℕ) : sl (k + 2) = sl k := Fin.ext (by show (k + 2) % 2 = k % 2; omega)
theorem sl_pred {k : ℕ} (h : 1 ≤ k) : sl (k - 1) = sl (k + 1) := Fin.ext (by show (k - 1) % 2 = (k + 1) % 2; omega)

variable [FloatOps F]

section Trip

variable (d : Dev nD) (L : grid0.Coords) (I : Buf (Elt F) (iLoc d)) (X : Buf (Elt F) (xLoc d))

omit [FloatOps F] in
/-- A copy of window `k`'s indices on its way into slot `s`, whatever the slot held. -/
theorem inFlight_of {N : ℕ} (hN : N = 8192) (s : Fin 2) (k : Fin 4) (f : Buf (Elt F) ((inM s).view.loc (thr d L))) (x : S1x256.Idx → Elt F .i32)
    (hx : x = (idxM L k).view.read (Elt F) I) :
    (Transfers.Flight countersEmb (thr d L) (.dma (inSem s)) (default : HIx 1) N
      iprop(own d L (inM s) ((inM s).view.writes (Elt F) f [⟨Rect.whole _, x⟩]) ∗ idxPts d L I k) : sProp 𝕄) ⊢ inFlight d L I s k := by
  subst hN
  unfold inFlight
  refine Transfers.Flight_mono countersEmb (thr d L) ?_
  unfold inFull
  iintro ⟨Hin, Hi⟩
  isplitr [Hi]
  · iexists _; isplitr
    swap; · iexact Hin
    ipureintro; exact (View.read_writes_whole _ _ _).trans hx
  · iexact Hi

set_option maxRecDepth 16384 in
set_option maxHeartbeats 4000000 in
/-- The first part of trip `k`: it starts the copy of window `k + 1`'s indices into the free slot, if there is such a
    window. -/
theorem part1_wp (k : Fin 4) :
    iprop(inFree d L (sl (k.val + 1)) ∗ idxHome d L I k.val)
      ⊢ wp frame (wpE (defs₀ (F := F)) 𝒱₀ (thr d L) none) Set.univ
          (k0_part1 L xV (Memref.isWhole_whole _) iV (Memref.isWhole_whole _) oV (Memref.isWhole_whole _)
            inV (Memref.isWhole_whole _) cc0_scoped1 outV (Memref.isWhole_whole _) cc0_scoped3 cc0_scoped4 (tileBase L) 0#32 1#32
            (tripOf k) (wIssued k) (wTrip k) (wTrip k) (wPrev k) (wStep k))
          fun r => iprop(⌜r = res1 L k⌝ ∗ inRole d L I (k.val + 1) ∗ idxRest d L I k.val) := by
  rw [k0_part1_eq_skeleton]; unfold k0_part1_skel
  have hc1 := chk1 L k
  have hc2 := chk2 k
  have hc3 := chk3 k
  unfold inRole
  by_cases h3 : k.val < 3
  · have h1 := (cond1_iff L k).2 h3
    rw [idxHome_out d L I k h3, dif_pos (by omega)]
    unfold inFree
    simp only [inM_of (s := sl (k.val + 1)) (off4_eq k h3), idxM_of (k := ⟨k.val + 1, by omega⟩) (off5_eq L k h3), inSem_of (s := sl (k.val + 1)) (off6_eq k h3)]
    iintro ⟨⟨⟨%f, Hin⟩, Hs⟩, Hi, Hr⟩
    sl_exec
    sl_step
    isplitr; · ipureintro; rfl
    isplitr [Hr]
    · iapply (inFlight_of d L I rfl (sl (k.val + 1)) ⟨k.val + 1, show k.val + 1 < 4 by omega⟩ f (part1_wp.sl.dma0 d L I k h3) rfl) $$ Hs
    · iexact Hr
  · have h1 : ¬ k0_cond1 L (tripOf k) (wStep k) = 1#1 := fun h => h3 ((cond1_iff L k).1 h)
    obtain rfl : k = 3 := Fin.ext (by have := k.isLt; show k.val = 3; omega)
    rw [dif_neg (by decide)]
    iintro ⟨Hf, Hr⟩
    sl_exec
    sl_step
    isplitr; · ipureintro; rfl
    isplitl [Hf]; · iexact Hf
    · iapply (Entails.of_eq (idxHome_last d L I)); iexact Hr

/-- The evidence that the tile may wait, at debts `O`, and its record of waits: what it held at `W`, and its own. -/
abbrev mayW (O : CellTallies nD τ sig (HIx 1)) : sProp 𝕄 := Transfers.MayWaits (thr d L) (default : HIx 1) O
abbrev waits (O : CellTallies nD τ sig (HIx 1)) (W : Waits sig (HIx 1)) : sProp 𝕄 :=
  iprop(∃ W', ⌜∀ p ∈ W', p ∈ W ∨ p.2 = none⌝ ∗ owes (thr d L) O W')
/-- The tile's share of the table. -/
abbrev tabPts (q : PosShare TreeShare) : sProp 𝕄 := (xV).view.loc (thr d L) ↦{q} X

set_option maxRecDepth 16384 in
set_option maxHeartbeats 4000000 in
/-- The second part of trip `k`: it awaits window `k`'s indices and gathers their rows into the free slot. -/
theorem part2_wp (hI : ∀ j, (I j).toNat < 8192) (q : PosShare TreeShare) (O : CellTallies nD τ sig (HIx 1)) (W : Waits sig (HIx 1)) (k : Fin 4) :
    iprop(mayW d L O ∗ waits d L O W ∗ tabPts d L X q ∗ sem0 d L cc0_scoped4.sem ∗ inFlight d L I (sl k.val) k ∗ ∃ f, own d L (outM (sl k.val)) f)
      ⊢ wp frame (wpE (defs₀ (F := F)) 𝒱₀ (thr d L) none) Set.univ
          (k0_part2 L xV (Memref.isWhole_whole _) iV (Memref.isWhole_whole _) oV (Memref.isWhole_whole _)
            inV (Memref.isWhole_whole _) cc0_scoped1 outV (Memref.isWhole_whole _) cc0_scoped3 cc0_scoped4
            (tripOf k) (wIssued k) (wTrip k) (wTrip k) (wPrev k) (wStep k) (chk3 k) (chk2 k) (chk1 L k)
            (w5 k) (w64 k) (w65 k) (w66 L k) (w71 L k) (w76 L k) (w96 L k))
          fun _ => iprop(mayW d L O ∗ waits d L O W ∗ tabPts d L X q ∗ sem0 d L cc0_scoped4.sem ∗ inFree d L (sl k.val) ∗ idxPts d L I k
            ∗ outFull d L I X (sl k.val) k) := by
  rw [k0_part2_eq_skeleton]; unfold k0_part2_skel
  have h2 := cond2_eq L k
  have h107 := w107_eq L k
  have h113 := w113_eq L k
  simp only [inM_of (s := sl k.val) (off7_eq k), idxM_of (k := k) (off8_eq L k), inSem_of (s := sl k.val) (off9_eq k),
    outM_of (s := sl k.val) (off10_eq k), inM_of (s := sl k.val) (off11_eq k)]
  unfold inFlight mayW tabPts own
  iintro ⟨#Hmw, ⟨%W', %hW', HO⟩, Hx, Hg, Hfl, %fo, Ho⟩
  sl_exec
  unfold inFull
  icases Hfl_dst with ⟨%fi, %hfi, Hin⟩
  have hin := offs_lt d L I hI hfi
  sl_exec
  sl_step
  isplitr; · iexact Hmw
  isplitl [HO]
  · iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  isplitl [Hx]; · iexact Hx
  isplitl [Hg]; · iexact Hg
  isplitl [Hin Hfl]
  · unfold inFree
    isplitl [Hin]
    · iexists _; iexact Hin
    · iexact Hfl
  isplitl [Hfl_src]; · iexact Hfl_src
  unfold outFull
  iexists _; isplitr
  swap; · iexact Ho
  ipureintro
  exact (View.read_writes_whole _ _ _).trans (gather_read d L I X hI hfi _ _)

end Trip

end Cert.Proof.Gather

end
-- ==== Proof.Tile.lean ====
/-
  One trip of a tile's loop, and the loop. Trip `k` starts the copy of window `k + 1`'s indices, awaits window `k`'s,
  gathers window `k`'s rows, starts writing them back, and awaits the write-back of window `k - 1`: `trip_wp` takes the
  loop's invariant from `inv k` to `inv (k + 1)`.
-/
module

public import proofs.«01_k».proof.Proof.Parts

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

local notation "𝕄" => MT nD τ sig (HIx 1) (Elt F) ℕ UU ℕ

variable [FloatOps F]

section Trip

variable (d : Dev nD) (L : grid0.Coords) (I : Buf (Elt F) (iLoc d)) (X : Buf (Elt F) (xLoc d))

omit [FloatOps F] in
/-- A write-back of slot `s`, which reads window `k` of the rows, on its way. -/
theorem outFlight_of {N : ℕ} (s : Fin 2) (k : Fin 4) (hN : N = (resM L k).view.dmaCredit) (f : Buf (Elt F) ((outM s).view.loc (thr d L)))
    (O0 : Buf (Elt F) (oLoc d)) (x : S256x128.Idx → Elt F .f32) (hx : x = (resM L k).view.read (Elt F) (gathered I X)) :
    (Transfers.Flight countersEmb (thr d L) (.dma (outSem s)) (default : HIx 1) N
      iprop(resPts d L k ((resM L k).view.writes (Elt F) O0 [⟨Rect.whole _, x⟩]) ∗ own d L (outM s) f) : sProp 𝕄) ⊢ outFlight d L I X s k := by
  subst hN
  unfold outFlight
  iintro H; iexists f
  iapply (Transfers.Flight_mono countersEmb (thr d L) ?_) $$ H
  iintro ⟨Ho, Hf⟩
  isplitl [Ho]
  · iapply (Entails.of_eq (pointsTo_congr (q := fullShare) fun i hi => ?_)) $$ Ho
    subst hx
    rw [← View.write_univ_eq_writes_whole, View.write_read_eq_piecewise]
    exact Finset.piecewise_eq_of_mem _ _ _ hi
  · iexact Hf

/-- Before trip `k`: window `k`'s indices are on their way, the rows of window `k - 1` on theirs, the rows of the
    windows before that delivered, the other slots free. -/
def inv (q : PosShare TreeShare) (O0 : Buf (Elt F) (oLoc d)) (O : CellTallies nD τ sig (HIx 1)) (W : Waits sig (HIx 1)) (k : ℕ)
    (acc : BitVec 32 × BitVec 32 × BitVec 32 × BitVec 32 × BitVec 32) : sProp 𝕄 :=
  iprop(⌜acc = counters k⌝ ∗ mayW d L O ∗ waits d L O W ∗ tabPts d L X q ∗ sem0 d L cc0_scoped4.sem
    ∗ (idxHome d L I k ∗ inRole d L I k ∗ inFree d L (sl (k + 1)))
    ∗ (outFree d L (sl k) ∗ outRole d L I X k ∗ outTodo d L O0 k ∗ outDone d L I X k))

set_option maxRecDepth 16384 in
set_option maxHeartbeats 4000000 in
/-- Trip `k`. -/
theorem trip_wp (hI : ∀ j, (I j).toNat < 8192) (q : PosShare TreeShare) (O0 : Buf (Elt F) (oLoc d)) (O : CellTallies nD τ sig (HIx 1))
    (W : Waits sig (HIx 1)) (k : Fin 4) :
    inv d L I X q O0 O W k.val (counters k.val)
      ⊢ wp frame (wpE (defs₀ (F := F)) 𝒱₀ (thr d L) none) Set.univ
          (k0_t1_body L xV (Memref.isWhole_whole _) iV (Memref.isWhole_whole _) oV (Memref.isWhole_whole _)
            inV (Memref.isWhole_whole _) cc0_scoped1 outV (Memref.isWhole_whole _) cc0_scoped3 cc0_scoped4 (tileBase L) (tripOf k) (counters k.val))
          fun acc => inv d L I X q O0 O W (k.val + 1) acc := by
  unfold k0_t1_body inv
  unfold outFree
  rw [outTodo_step d L O0 k, idxHome_in d L I k, sl_two k.val]
  iintro ⟨-, Hmw, Hw, Hx, Hg, ⟨Hhome, Hin, Hinf⟩, ⟨⟨Ho, Hos⟩, Hor, ⟨Hres, Htodo⟩, Hdone⟩⟩
  rw [wp_bind]
  iapply (wp_wand_r frame _ Set.univ)
  isplitl [Hhome Hinf]
  · iapply (part1_wp d L I k)
    isplitl [Hinf]; · iexact Hinf
    iexact Hhome
  iintro %r ⟨%hr, Hin', Hrest⟩
  subst hr
  rw [wp_bind]
  iapply (wp_wand_r frame _ Set.univ)
  isplitl [Hmw Hw Hx Hg Hin Ho]
  · iapply (part2_wp d L I X hI q O W k)
    isplitl [Hmw]; · iexact Hmw
    isplitl [Hw]; · iexact Hw
    isplitl [Hx]; · iexact Hx
    isplitl [Hg]; · iexact Hg
    isplitl [Hin]
    · iapply (Entails.of_eq (show inRole d L I k.val = inFlight d L I (sl k.val) k from dif_pos k.isLt)) $$ Hin
    iexact Ho
  iintro %_ ⟨Hmw, Hw, Hx, Hg, Hinf, Hi, Ho⟩
  have h5 := cond5_eq L k
  unfold outFull
  icases Ho with ⟨%fo, %hfo, Ho⟩
  unfold waits mayW
  icases Hw with ⟨%W', %hW', HO⟩
  icases Hmw with #Hmw
  have hcnt := counters_step L k
  have hrole : outRole d L I X (k.val + 1) = outFlight d L I X (sl k.val) k := (dif_pos ⟨by omega, by omega⟩).trans
    (congrArg (fun s => outFlight d L I X s k) (sl_two k.val))
  by_cases h1 : 1 ≤ k.val
  · have h7 := (cond7_iff L k).2 h1
    have h126 := (w126_iff L k).2 h1
    simp only [outSem_of (s := sl k.val) (off14_eq k), resM_of (k := k) (off13_eq L k), outM_of (s := sl k.val) (off12_eq k),
      outSem_of (s := sl (k.val + 1)) (off17_eq k h1), resM_of (k := ⟨k.val - 1, by omega⟩) (off16_eq L k h1), outM_of (s := sl (k.val + 1)) (off15_eq k h1)]
    ihave Hor := (Entails.of_eq (show outRole d L I X k.val = outFlight d L I X (sl (k.val + 1)) ⟨k.val - 1, by omega⟩ from dif_pos ⟨h1, by omega⟩)) $$ Hor
    unfold outFlight
    icases Hor with ⟨%fp, Hor⟩
    sl_exec
    sl_step
    isplitr; · ipureintro; exact hcnt
    isplitr; · iexact Hmw
    isplitl [HO]
    · iexists _; isplitr
      swap; · iexact HO
      ipureintro; intro p hp
      rcases Finset.mem_insert.mp hp with hp | hp; · exact .inr (hp ▸ rfl)
      exact hW' p hp
    isplitl [Hx]; · iexact Hx
    isplitl [Hg]; · iexact Hg
    isplitl [Hi Hrest Hin' Hinf]
    · isplitl [Hi Hrest]
      · isplitl [Hi]; · iexact Hi
        iexact Hrest
      isplitl [Hin']; · iexact Hin'
      iexact Hinf
    isplitl [Hor Hor_src]
    · isplitl [Hor_src]
      · iexists fp; iexact Hor_src
      iexact Hor
    isplitl [Hos]
    · iapply (Entails.of_eq hrole.symm)
      iapply (outFlight_of (N := 1048576) d L I X (sl k.val) k rfl fo O0 (trip_wp.sl.dma0 k fo) hfo) $$ Hos
    isplitl [Htodo]; · iexact Htodo
    iapply (Entails.of_eq (outDone_step d L I X k h1).symm)
    isplitl [Hor_dst]; · iexact Hor_dst
    iexact Hdone
  · have h7 := fun h => h1 ((cond7_iff L k).1 h)
    have h126 := fun h => h1 ((w126_iff L k).1 h)
    have hfree : outRole d L I X k.val = outFree d L (sl (k.val + 1)) := dif_neg fun h => h1 h.1
    unfold outFree at hfree
    have h0 : k = 0 := Fin.ext (by show k.val = 0; omega)
    simp only [outSem_of (s := sl k.val) (off14_eq k), resM_of (k := k) (off13_eq L k), outM_of (s := sl k.val) (off12_eq k)]
    sl_exec
    sl_step
    isplitr; · ipureintro; exact hcnt
    isplitr; · iexact Hmw
    isplitl [HO]
    · iexists W'; isplitr
      swap; · iexact HO
      ipureintro; exact hW'
    isplitl [Hx]; · iexact Hx
    isplitl [Hg]; · iexact Hg
    isplitl [Hi Hrest Hin' Hinf]
    · isplitl [Hi Hrest]
      · isplitl [Hi]; · iexact Hi
        iexact Hrest
      isplitl [Hin']; · iexact Hin'
      iexact Hinf
    isplitl [Hor]
    · iapply (Entails.of_eq hfree) $$ Hor
    isplitl [Hos]
    · iapply (Entails.of_eq hrole.symm)
      iapply (outFlight_of (N := 1048576) d L I X (sl k.val) k rfl fo O0 (trip_wp.sl.dma0_1 k fo) hfo) $$ Hos
    isplitl [Htodo]; · iexact Htodo
    subst h0
    iapply (Entails.of_eq (show outDone d L I X ((0 : Fin 4).val + 1) = outDone d L I X (0 : Fin 4).val from outDone_first d L I X).symm) $$ Hdone

end Trip

end Cert.Proof.Gather

end
-- ==== Proof.Body.lean ====
/-
  One tile's run of the gather: the copy of its first window's indices starts, the loop makes its four trips, and the
  last window's write-back is awaited. `body_wp` starts from the tile's windows of the indices and of the result and
  from its free buffers, and ends with the result's windows holding the rows `gathered`.
-/
module

public import proofs.«01_k».proof.Proof.Tile

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

local notation "𝕄" => MT nD τ sig (HIx 1) (Elt F) ℕ UU ℕ

theorem off1_eq : k0_off1 = ![0 % 2, 0, 0] := by decide +kernel
theorem off2_eq : ∀ i : grid0.Coords, k0_off2 i = ![0, base i 0] := by decide +kernel
theorem off3_eq : k0_off3 = ![0 % 2] := by decide +kernel

section Ends

variable (d : Dev nD) (L : grid0.Coords) (I : Buf (Elt F) (iLoc d)) (X : Buf (Elt F) (xLoc d))

/-- All of a tile's windows of indices, and of the result at contents `g`. -/
abbrev idxAll : sProp 𝕄 := bigSep Finset.univ fun j => idxPts d L I j
abbrev resAll (g : Buf (Elt F) (oLoc d)) : sProp 𝕄 := bigSep Finset.univ fun j => resPts d L j g

theorem idxAll_first : (idxAll d L I : sProp 𝕄) = iprop(idxPts d L I 0 ∗ idxHome d L I 0) := by
  unfold idxHome
  refine (SparseCore.bigSep_erase' (i := (0 : Fin 4)) (Finset.mem_univ _)).trans ?_
  rw [show (Finset.univ.erase (0 : Fin 4)) = Finset.univ.filter fun j : Fin 4 => j.val ≠ 0 by decide]

theorem idxHome_all : (idxHome d L I 4 : sProp 𝕄) = idxAll d L I := by
  unfold idxHome; congr 1

theorem outTodo_zero (O0 : Buf (Elt F) (oLoc d)) : (outTodo d L O0 0 : sProp 𝕄) = resAll d L O0 := by
  unfold outTodo; congr 1

theorem outDone_zero : (outDone d L I X 0 : sProp 𝕄) = iprop(emp) := by
  unfold outDone
  rw [show (Finset.univ.filter fun j : Fin 4 => j.val + 1 < 0) = ∅ by decide]
  exact bigSep_empty

theorem outDone_all : (resAll d L (gathered I X) : sProp 𝕄) = iprop(resPts d L 3 (gathered I X) ∗ outDone d L I X 4) := by
  unfold outDone
  refine (SparseCore.bigSep_erase' (i := (3 : Fin 4)) (Finset.mem_univ _)).trans ?_
  rw [show (Finset.univ.erase (3 : Fin 4)) = Finset.univ.filter fun j : Fin 4 => j.val + 1 < 4 by decide]

variable [FloatOps F]

set_option maxRecDepth 16384 in
set_option maxHeartbeats 4000000 in
/-- The start: the first window's indices are on their way. -/
theorem part3_wp (s : Fin 2) (hs : s = sl 0) :
    iprop(inFree d L s ∗ idxPts d L I 0)
      ⊢ wp frame (wpE (defs₀ (F := F)) 𝒱₀ (thr d L) none) Set.univ
          (k0_part3 L xV (Memref.isWhole_whole _) iV (Memref.isWhole_whole _) oV (Memref.isWhole_whole _)
            inV (Memref.isWhole_whole _) cc0_scoped1 outV (Memref.isWhole_whole _) cc0_scoped3 cc0_scoped4)
          fun r => iprop(⌜r = tileBase L⌝ ∗ inFlight d L I s 0) := by
  rw [k0_part3_eq_skeleton]; unfold k0_part3_skel inFree
  simp only [inM_of (s := s) (off1_eq.trans (by rw [hs])), idxM_of (k := 0) (off2_eq L), inSem_of (s := s) (off3_eq.trans (by rw [hs]))]
  iintro ⟨⟨⟨%f, Hin⟩, Hs⟩, Hi⟩
  sl_exec
  sl_step
  isplitr; · ipureintro; rfl
  iapply (inFlight_of d L I rfl s 0 f (part3_wp.sl.dma0 d L I) rfl) $$ Hs

set_option maxRecDepth 16384 in
set_option maxHeartbeats 4000000 in
/-- The loop, and the range checks after it. -/
theorem part4_wp (hI : ∀ j, (I j).toNat < 8192) (q : PosShare TreeShare) (O0 : Buf (Elt F) (oLoc d)) (O : CellTallies nD τ sig (HIx 1))
    (W : Waits sig (HIx 1)) :
    inv d L I X q O0 O W 0 (counters 0)
      ⊢ wp frame (wpE (defs₀ (F := F)) 𝒱₀ (thr d L) none) Set.univ
          (k0_part4 L xV (Memref.isWhole_whole _) iV (Memref.isWhole_whole _) oV (Memref.isWhole_whole _)
            inV (Memref.isWhole_whole _) cc0_scoped1 outV (Memref.isWhole_whole _) cc0_scoped3 cc0_scoped4 (tileBase L))
          fun r => iprop(⌜r = ⟨wPrev 4, wStep 4, chk5 L, chk4⟩⌝ ∗ inv d L I X q O0 O W 4 (counters 4)) := by
  rw [k0_part4_eq_skeleton]; unfold k0_part4_skel
  have h5 := chk5 L
  have h4 := chk4
  iintro H
  sl_exec
  sl_for (inv d L I X q O0 O W) $$ [H]
  case region =>
    intro k acc
    iintro H
    unfold inv
    icases H with ⟨%h, H⟩
    subst h
    iapply (trip_wp d L I X hI q O0 O W (Fin.cast trips_eq k))
    unfold inv
    isplitr; · ipureintro; rfl
    iexact H
  · iexact H
  iintro %acc HI
  ihave HI := (Entails.of_eq (show inv d L I X q O0 O W k0_t1_loop.trips acc = inv d L I X q O0 O W 4 acc from congrArg (fun n => inv d L I X q O0 O W n acc) trips_eq)) $$ HI
  unfold inv
  icases HI with ⟨%h, HI⟩
  subst h
  sl_exec
  sl_step
  isplitr; · ipureintro; rfl
  isplitr; · ipureintro; rfl
  iexact HI

set_option maxRecDepth 16384 in
set_option maxHeartbeats 4000000 in
/-- The tile's run. -/
theorem body_wp (hI : ∀ j, (I j).toNat < 8192) (q : PosShare TreeShare) (O0 : Buf (Elt F) (oLoc d)) (O : CellTallies nD τ sig (HIx 1))
    (W : Waits sig (HIx 1)) :
    iprop(mayW d L O ∗ waits d L O W ∗ tabPts d L X q ∗ sem0 d L cc0_scoped4.sem ∗ idxAll d L I ∗ resAll d L O0
        ∗ inFree d L 0 ∗ inFree d L 1 ∗ outFree d L 0 ∗ outFree d L 1)
      ⊢ wp frame (wpE (defs₀ (F := F)) 𝒱₀ (thr d L) none) Set.univ
          (cc0_gather_kernel L xV (Memref.isWhole_whole _) iV (Memref.isWhole_whole _) oV (Memref.isWhole_whole _)
            inV (Memref.isWhole_whole _) cc0_scoped1 outV (Memref.isWhole_whole _) cc0_scoped3 cc0_scoped4)
          fun _ => iprop(waits d L O W ∗ tabPts d L X q ∗ sem0 d L cc0_scoped4.sem ∗ idxAll d L I ∗ resAll d L (gathered I X)
            ∗ inFree d L 0 ∗ inFree d L 1 ∗ outFree d L 0 ∗ outFree d L 1) := by
  rw [cc0_gather_kernel_eq_skeleton]; unfold cc0_gather_kernel_skel
  rw [idxAll_first d L I, outDone_all d L I X]
  iintro ⟨Hmw, Hw, Hx, Hg, ⟨Hi, Hhome⟩, Hres, Hi0, Hi1, Ho0, Ho1⟩
  rw [wp_bind]
  iapply (wp_wand_r frame _ Set.univ)
  isplitl [Hi Hi0]
  · iapply (part3_wp d L I (sl 0) rfl)
    isplitl [Hi0]; · iexact Hi0
    iexact Hi
  iintro %r ⟨%hr, Hin⟩
  subst hr
  rw [wp_bind]
  iapply (wp_wand_r frame _ Set.univ)
  isplitl [Hmw Hw Hx Hg Hin Hhome Hi1 Ho0 Ho1 Hres]
  · iapply (part4_wp d L I X hI q O0 O W)
    unfold inv
    isplitr; · ipureintro; rfl
    isplitl [Hmw]; · iexact Hmw
    isplitl [Hw]; · iexact Hw
    isplitl [Hx]; · iexact Hx
    isplitl [Hg]; · iexact Hg
    isplitl [Hhome Hin Hi1]
    · isplitl [Hhome]; · iexact Hhome
      isplitl [Hin]
      · iapply (Entails.of_eq (show inRole d L I 0 = inFlight d L I (sl 0) 0 from dif_pos (by decide)).symm) $$ Hin
      iexact Hi1
    isplitl [Ho0]; · iexact Ho0
    isplitl [Ho1]
    · iapply (Entails.of_eq (show outRole d L I X 0 = outFree d L 1 from dif_neg (by decide)).symm) $$ Ho1
    isplitl [Hres]
    · iapply (Entails.of_eq (outTodo_zero d L O0).symm) $$ Hres
    iapply (Entails.of_eq (outDone_zero d L I X).symm)
    iempintro
  iintro %r ⟨%hr, HI⟩
  subst hr
  unfold inv
  icases HI with ⟨-, Hmw, Hw, Hx, Hg, ⟨Hhome, Hin, Hinf⟩, ⟨Ho, Hor, -, Hdone⟩⟩
  unfold waits mayW
  icases Hw with ⟨%W', %hW', HO⟩
  icases Hmw with #Hmw
  obtain ⟨s, hs⟩ : ∃ s : Fin 2, s = 1 := ⟨1, rfl⟩
  simp only [outSem_of (s := s) (off20_eq.trans (by rw [hs]; rfl)), resM_of (k := 3) (off19_eq L), outM_of (s := s) (off21_eq.trans (by rw [hs]; rfl))]
  ihave Hor := (Entails.of_eq (show outRole d L I X 4 = outFlight d L I X s 3 from (dif_pos (by decide)).trans (by rw [hs]; rfl))) $$ Hor
  unfold outFlight
  icases Hor with ⟨%fp, Hor⟩
  sl_exec
  sl_step
  isplitl [HO]
  · iexists _; isplitr
    swap; · iexact HO
    ipureintro; intro p hp
    rcases Finset.mem_insert.mp hp with hp | hp; · exact .inr (hp ▸ rfl)
    exact hW' p hp
  isplitl [Hx]; · iexact Hx
  isplitl [Hg]; · iexact Hg
  isplitl [Hhome]
  · iapply (Entails.of_eq ((idxHome_all d L I).trans (idxAll_first d L I))) $$ Hhome
  isplitl [Hor_dst Hdone]
  · isplitl [Hor_dst]; · iexact Hor_dst
    iexact Hdone
  isplitl [Hin]
  · iapply (Entails.of_eq (show inRole d L I 4 = inFree d L 0 from dif_neg (by decide))) $$ Hin
  isplitl [Hinf]; · iexact Hinf
  isplitl [Ho]; · iexact Ho
  subst hs
  unfold outFree
  isplitl [Hor_src]
  · iexists _; iexact Hor_src
  iexact Hor

end Ends

end Cert.Proof.Gather

end
-- ==== Proof.Windows.lean ====
/-
  How the whole arrays are cut into the tiles' windows, and a tile's double buffers into their slots. The index list and
  the result are each the separating product of 128 windows of 256, four for each of the 16 tiles of either SparseCore
  (`idx_split`, `res_split`); the table's reads are shared out, one read share for each tile (`tab_split`).
-/
module

public import proofs.«01_k».proof.Proof.Body

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

local notation "𝕄" => MT nD τ sig (HIx 1) (Elt F) ℕ UU ℕ

/-- Grid point `(c, s)`: SparseCore `c`, tile `s`. -/
def coordsV (c : Fin (grid0.bound 0)) (s : Fin (grid0.bound 1)) : grid0.Coords :=
  fun | 0 => c | 1 => s | ⟨_ + 2, h⟩ => absurd h (Nat.not_lt.2 (Nat.le_add_left _ _))

/-- The windows in their order: tile `s` of SparseCore `c` has windows `64 c + 4 s`, …, `64 c + 4 s + 3`. -/
def wEquiv : Fin 2 × Fin 16 × Fin 4 ≃ Fin 128 :=
  (Equiv.prodCongr (Equiv.refl (Fin 2)) (finProdFinEquiv : Fin 16 × Fin 4 ≃ Fin (16 * 4))).trans (finProdFinEquiv : Fin 2 × Fin (16 * 4) ≃ Fin (2 * (16 * 4)))

theorem wEquiv_val (c : Fin 2) (s : Fin 16) (k : Fin 4) : (wEquiv (c, s, k)).val = k.val + 4 * s.val + 64 * c.val := rfl

theorem idiv : 128 ∣ S1x32768.size 1 := ⟨256, rfl⟩
theorem rdiv : 128 ∣ S32768x128.size 0 := ⟨256, rfl⟩

theorem idx_rect (c : Fin 2) (s : Fin 16) (k : Fin 4) :
    Rect.unit (s := S1x32768) ![0, base (coordsV c s) k.val] S1x256.size (idxM_inb (coordsV c s) k) = Rect.part (s := S1x32768) (a₀ := 1) idiv (wEquiv (c, s, k)) := by
  unfold Rect.part Rect.block
  congr 1 <;> funext a
  · match a with
    | 0 => simp [Shape.partIx, Shape.partSize]
    | 1 =>
      show 1024 * s.val + 16384 * c.val + 256 * k.val = (wEquiv (c, s, k)).val * 256
      rw [wEquiv_val]; omega
  · match a with
    | 0 => simp [Shape.partSize]
    | 1 => simp [Shape.partSize]

theorem res_rect (c : Fin 2) (s : Fin 16) (k : Fin 4) :
    Rect.unit (s := S32768x128) ![base (coordsV c s) k.val, 0] S256x128.size (resM_inb (coordsV c s) k) = Rect.part (s := S32768x128) (a₀ := 0) rdiv (wEquiv (c, s, k)) := by
  unfold Rect.part Rect.block
  congr 1 <;> funext a
  · match a with
    | 0 =>
      show 1024 * s.val + 16384 * c.val + 256 * k.val = (wEquiv (c, s, k)).val * 256
      rw [wEquiv_val]; omega
    | 1 => simp [Shape.partIx, Shape.partSize]
  · match a with
    | 0 => simp [Shape.partSize]
    | 1 => simp [Shape.partSize]

theorem idx_set (c : Fin 2) (s : Fin 16) (k : Fin 4) :
    (idxM (coordsV c s) k).view.set = (Rect.part (s := S1x32768) (a₀ := 1) idiv (wEquiv (c, s, k))).set := by
  show ((View.whole (main_arg1_scv : Ref sig .scVector)).slice (Rect.unit (s := S1x32768) ![0, base (coordsV c s) k.val] S1x256.size (idxM_inb (coordsV c s) k))).set = _
  rw [View.set_slice, idx_rect]; exact Finset.map_refl

theorem res_set (c : Fin 2) (s : Fin 16) (k : Fin 4) :
    (resM (coordsV c s) k).view.set = (Rect.part (s := S32768x128) (a₀ := 0) rdiv (wEquiv (c, s, k))).set := by
  show ((View.whole (main_v0_scv : Ref sig .scVector)).slice (Rect.unit (s := S32768x128) ![base (coordsV c s) k.val, 0] S256x128.size (resM_inb (coordsV c s) k))).set = _
  rw [View.set_slice, res_rect]; exact Finset.map_refl

variable (d : Dev nD)

/-- A family over the 128 windows, tile by tile. -/
theorem bigSep_windows (Φ : Fin 128 → sProp 𝕄) :
    bigSep Finset.univ Φ = bigSep Finset.univ fun c : Fin 2 => bigSep Finset.univ fun s : Fin 16 => bigSep Finset.univ fun k : Fin 4 => Φ (wEquiv (c, s, k)) := by
  rw [bigSep_univ_equiv wEquiv, bigSep_univ_prod]
  exact bigSep_congr fun c _ => bigSep_univ_prod _

/-- The index list is its windows at once. -/
theorem idx_split (I : Buf (Elt F) (iLoc d)) :
    (iLoc d ↦{fullShare} I : sProp 𝕄) = bigSep Finset.univ fun c : Fin 2 => bigSep Finset.univ fun s : Fin 16 => idxAll d (coordsV c s) I := by
  have h := pointsTo_biUnion (Ix := HIx 1) (Val := Elt F) (Name := ℕ) (U := UU) (Lvl := ℕ) (ℓ := iLoc d) (q := fullShare) (f := I)
    Finset.univ (fun w : Fin 128 => (Rect.part (s := S1x32768) (a₀ := 1) idiv w).set) (fun _ _ _ _ h => Rect.part_disjoint idiv h)
  rw [Rect.biUnion_part idiv, bigSep_windows] at h
  refine h.trans (bigSep_congr fun c _ => bigSep_congr fun s _ => bigSep_congr fun k _ => ?_)
  show _ = (iLoc d ↦[(idxM (coordsV c s) k).view.set]{fullShare} I : sProp 𝕄)
  rw [idx_set]

/-- The result is its windows at once. -/
theorem res_split (g : Buf (Elt F) (oLoc d)) :
    (oLoc d ↦{fullShare} g : sProp 𝕄) = bigSep Finset.univ fun c : Fin 2 => bigSep Finset.univ fun s : Fin 16 => resAll d (coordsV c s) g := by
  have h := pointsTo_biUnion (Ix := HIx 1) (Val := Elt F) (Name := ℕ) (U := UU) (Lvl := ℕ) (ℓ := oLoc d) (q := fullShare) (f := g)
    Finset.univ (fun w : Fin 128 => (Rect.part (s := S32768x128) (a₀ := 0) rdiv w).set) (fun _ _ _ _ h => Rect.part_disjoint rdiv h)
  rw [Rect.biUnion_part rdiv, bigSep_windows] at h
  refine h.trans (bigSep_congr fun c _ => bigSep_congr fun s _ => bigSep_congr fun k _ => ?_)
  show _ = (oLoc d ↦[(resM (coordsV c s) k).view.set]{fullShare} g : sProp 𝕄)
  rw [res_set]

/-- Tile `(c, s)`'s read share of the table, and the rest, which the TensorCore keeps. -/
abbrev tq (c : Fin 2) (s : Fin 16) : PosShare TreeShare := Transfers.shareTokN fullShare (s.val + 16 * c.val)
abbrev tRest : PosShare TreeShare := Transfers.shareDrop fullShare 32

/-- The table's read shares. -/
theorem tab_split (X : Buf (Elt F) (xLoc d)) :
    (xLoc d ↦{fullShare} X : sProp 𝕄) = iprop((xLoc d ↦{tRest} X) ∗ bigSep Finset.univ fun c : Fin 2 => bigSep Finset.univ fun s : Fin 16 => tabPts d (coordsV c s) X (tq c s)) := by
  refine (BI.Entails.antisymm (Transfers.pointsTo_toks fullShare 32).1 (Transfers.pointsTo_toks fullShare 32).2).trans ?_
  congr 1
  rw [bigSep_univ_equiv (finProdFinEquiv : Fin 2 × Fin 16 ≃ Fin (2 * 16)), bigSep_univ_prod]
  rfl

/-! ## The double buffers and their slots -/

theorem indiv : 2 ∣ S2x1x256.size 0 := ⟨1, rfl⟩
theorem outdiv : 2 ∣ S2x256x128.size 0 := ⟨1, rfl⟩

theorem in_rect (s : Fin 2) : Rect.unit (s := S2x1x256) ![s.val, 0, 0] S1x1x256.size (inM_inb s) = Rect.part (s := S2x1x256) (a₀ := 0) indiv s := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem out_rect (s : Fin 2) : Rect.unit (s := S2x256x128) ![s.val, 0, 0] S1x256x128.size (outM_inb s) = Rect.part (s := S2x256x128) (a₀ := 0) outdiv s := by
  unfold Rect.part Rect.block
  congr 1 <;> funext a
  · match a with
    | 0 => simp [Shape.partIx, Shape.partSize]
    | 1 => simp [Shape.partIx, Shape.partSize]
    | 2 => simp [Shape.partIx, Shape.partSize]
  · match a with
    | 0 => simp [Shape.partSize]
    | 1 => simp [Shape.partSize]
    | 2 => simp [Shape.partSize]

theorem in_set (s : Fin 2) : (inM s).view.set = (Rect.part (s := S2x1x256) (a₀ := 0) indiv s).set := by
  show (((View.whole (cc0_scoped0 : Ref sig .scVector)).slice (Rect.unit (s := S2x1x256) ![s.val, 0, 0] S1x1x256.size (inM_inb s))).reshape S1x256 squeezes_S1x1x256_S1x256.numel_eq).set = _
  rw [View.set_reshape]; exact ((View.set_slice _ _).trans Finset.map_refl).trans (congrArg (fun r => r.set) (in_rect s))

theorem out_set (s : Fin 2) : (outM s).view.set = (Rect.part (s := S2x256x128) (a₀ := 0) outdiv s).set := by
  show (((View.whole (cc0_scoped2 : Ref sig .scVector)).slice (Rect.unit (s := S2x256x128) ![s.val, 0, 0] S1x256x128.size (outM_inb s))).reshape S256x128 squeezes_S1x256x128_S256x128.numel_eq).set = _
  rw [View.set_reshape]; exact ((View.set_slice _ _).trans Finset.map_refl).trans (congrArg (fun r => r.set) (out_rect s))

variable (L : grid0.Coords)

abbrev inLoc : Loc nD τ sig := (thr d L).loc cc0_scoped0
abbrev outLoc : Loc nD τ sig := (thr d L).loc cc0_scoped2

theorem in_split (f : Buf (Elt F) (inLoc d L)) : (inLoc d L ↦{fullShare} f : sProp 𝕄) = bigSep Finset.univ fun s : Fin 2 => own d L (inM s) f := by
  have h := pointsTo_biUnion (Ix := HIx 1) (Val := Elt F) (Name := ℕ) (U := UU) (Lvl := ℕ) (ℓ := inLoc d L) (q := fullShare) (f := f)
    Finset.univ (fun s : Fin 2 => (Rect.part (s := S2x1x256) (a₀ := 0) indiv s).set) (fun _ _ _ _ h => Rect.part_disjoint indiv h)
  rw [Rect.biUnion_part indiv] at h
  refine h.trans (bigSep_congr fun s _ => ?_)
  show _ = (inLoc d L ↦[(inM s).view.set]{fullShare} f : sProp 𝕄)
  rw [in_set]

theorem out_split (f : Buf (Elt F) (outLoc d L)) : (outLoc d L ↦{fullShare} f : sProp 𝕄) = bigSep Finset.univ fun s : Fin 2 => own d L (outM s) f := by
  have h := pointsTo_biUnion (Ix := HIx 1) (Val := Elt F) (Name := ℕ) (U := UU) (Lvl := ℕ) (ℓ := outLoc d L) (q := fullShare) (f := f)
    Finset.univ (fun s : Fin 2 => (Rect.part (s := S2x256x128) (a₀ := 0) outdiv s).set) (fun _ _ _ _ h => Rect.part_disjoint outdiv h)
  rw [Rect.biUnion_part outdiv] at h
  refine h.trans (bigSep_congr fun s _ => ?_)
  show _ = (outLoc d L ↦[(outM s).view.set]{fullShare} f : sProp 𝕄)
  rw [out_set]

/-- Two slots of the index buffer, whatever they hold, are the buffer at some contents; likewise the row buffer's. -/
theorem in_join : iprop((∃ f, own d L (inM 0) f) ∗ ∃ f, own d L (inM 1) f) ⊢ (iprop(∃ f, inLoc d L ↦{fullShare} f) : sProp 𝕄) := by
  iintro ⟨⟨%f0, H0⟩, %f1, H1⟩
  have key : iprop(own d L (inM 0) f0 ∗ own d L (inM 1) f1)
      = (bigSep (Finset.univ : Finset (Fin 2)) fun s => ((inLoc d L) ↦[(Rect.part (s := S2x1x256) (a₀ := 0) indiv s).set]{fullShare} (if s = 0 then f0 else f1) : sProp 𝕄)) := by
    rw [bigSep_fin_two, ← in_set, ← in_set]; rfl
  ihave H := (Entails.of_eq key) $$ [H0 H1]
  · isplitl [H0]; · iexact H0
    iexact H1
  ihave H := (pointsTo_biUnion_join (ℓ := inLoc d L) (q := fullShare) (Val := Elt F) (Finset.univ : Finset (Fin 2))
    (fun s : Fin 2 => (Rect.part (s := S2x1x256) (a₀ := 0) indiv s).set) (fun s => if s = 0 then f0 else f1) f0 (fun _ _ _ _ h => Rect.part_disjoint indiv h)) $$ H
  icases H with ⟨%g, -, H⟩
  rw [Rect.biUnion_part indiv]
  iexists g; iexact H

theorem out_join : iprop((∃ f, own d L (outM 0) f) ∗ ∃ f, own d L (outM 1) f) ⊢ (iprop(∃ f, outLoc d L ↦{fullShare} f) : sProp 𝕄) := by
  iintro ⟨⟨%f0, H0⟩, %f1, H1⟩
  have key : iprop(own d L (outM 0) f0 ∗ own d L (outM 1) f1)
      = (bigSep (Finset.univ : Finset (Fin 2)) fun s => ((outLoc d L) ↦[(Rect.part (s := S2x256x128) (a₀ := 0) outdiv s).set]{fullShare} (if s = 0 then f0 else f1) : sProp 𝕄)) := by
    rw [bigSep_fin_two, ← out_set, ← out_set]; rfl
  ihave H := (Entails.of_eq key) $$ [H0 H1]
  · isplitl [H0]; · iexact H0
    iexact H1
  ihave H := (pointsTo_biUnion_join (ℓ := outLoc d L) (q := fullShare) (Val := Elt F) (Finset.univ : Finset (Fin 2))
    (fun s : Fin 2 => (Rect.part (s := S2x256x128) (a₀ := 0) outdiv s).set) (fun s => if s = 0 then f0 else f1) f0 (fun _ _ _ _ h => Rect.part_disjoint outdiv h)) $$ H
  icases H with ⟨%g, -, H⟩
  rw [Rect.biUnion_part outdiv]
  iexists g; iexact H

end Cert.Proof.Gather

end
-- ==== Proof.Launch.lean ====
/-
  The whole program's run. The TensorCore hands the call the index list and the result in their windows, and one read
  share of the table for each tile; every tile brings its windows back, the result's holding the rows `gathered`
  (`tileObl`); `run_main` says that every execution ends with the table and the indices unchanged, the result equal to
  `gathered`, and every semaphore at zero, provided that every index is below 8192.
-/
module

public import proofs.«01_k».proof.Proof.Windows

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 eq_ix2)

variable {F : FTy → Type}

local notation "𝕄" => MT nD τ sig (HIx 1) (Elt F) ℕ UU ℕ

abbrev EH : Emb UH (MT nD τ sig (HIx 1) (Elt F) ℕ UU ℕ) := embL
abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

theorem nCore_zero : (K (F := F)).nCore 0 = 2 := rfl
theorem nSub_zero : (K (F := F)).nSub 0 = 16 := rfl

variable (m : (ℓ : Loc nD τ sig) → Buf (Elt F) ℓ) (ρ : Dev nD → PrngReg)

/-- Every index is a row of the table. -/
def InTable : Prop := ∀ (d : Dev nD) (j : S1x32768.Idx), (m (iLoc d) j).toNat < 8192

/-! ## What the call carries -/

/-- A tile's share of the work, before (`g` the launch contents of the result) and after (`g` the rows). -/
abbrev share (d : Dev nD) (c : Fin 2) (s : Fin 16) (g : Buf (Elt F) (oLoc d)) : sProp 𝕄 :=
  iprop(idxAll d (coordsV c s) (m (iLoc d)) ∗ tabPts d (coordsV c s) (m (xLoc d)) (tq c s) ∗ resAll d (coordsV c s) g)
abbrev rows (d : Dev nD) : Buf (Elt F) (oLoc d) := gathered (m (iLoc d)) (m (xLoc d))

variable [FloatOps F]

def P : (K (F := F)).Pay (nD := nD) (Val := Elt F) (Name := ℕ) (U := UU) where
  st := fun q d c => match q with | 0 => bigSep Finset.univ fun s : Fin 16 => share m d (Fin.cast nCore_zero c) s (m (oLoc d))
  dn := fun q d c => match q with | 0 => bigSep Finset.univ fun s : Fin 16 => share m d (Fin.cast nCore_zero c) s (rows m d)
  go := fun q d c i => match q with | 0 => share m d (Fin.cast nCore_zero c) (Fin.cast nSub_zero i) (m (oLoc d))
  td := fun q d c i => match q with | 0 => share m d (Fin.cast nCore_zero c) (Fin.cast nSub_zero i) (rows m d)
  x := fun _ _ => iprop(emp)

instance P_storable : (P (F := F) m).IsStorable where
  st q d c := match q with
    | 0 => (inferInstance : BI.Storable (upEmb : UEmb _ 𝕄) (bigSep Finset.univ fun s : Fin 16 => share m d (Fin.cast nCore_zero c) s (m (oLoc d))))
  dn q d c := match q with
    | 0 => (inferInstance : BI.Storable (upEmb : UEmb _ 𝕄) (bigSep Finset.univ fun s : Fin 16 => share m d (Fin.cast nCore_zero c) s (rows m d)))
  go q d c i := match q with
    | 0 => (inferInstance : BI.Storable (upEmb : UEmb _ 𝕄) (share m d (Fin.cast nCore_zero c) (Fin.cast nSub_zero i) (m (oLoc d))))
  td q d c i := match q with
    | 0 => (inferInstance : BI.Storable (upEmb : UEmb _ 𝕄) (share m d (Fin.cast nCore_zero c) (Fin.cast nSub_zero i) (rows m d)))

/-! ## A tile's own semaphores and buffers -/

section Tile

variable (d : Dev nD) (L : grid0.Coords)

omit [FloatOps F] in
/-- Five members taken out of a family. -/
theorem take_five {I : Type} [DecidableEq I] {t : Finset I} {Φ : I → sProp 𝕄} {a b c e g : I} (h : ({a, b, c, e, g} : Finset I) ⊆ t)
    (hn : [a, b, c, e, g].Nodup) :
    bigSep t Φ = iprop(Φ a ∗ Φ b ∗ Φ c ∗ Φ e ∗ Φ g ∗ bigSep (((((t.erase a).erase b).erase c).erase e).erase g) Φ) := by
  simp only [List.nodup_cons, List.mem_cons, List.not_mem_nil, or_false, not_or, not_false_eq_true, List.nodup_nil, and_true] at hn
  obtain ⟨⟨ab, ac, ae, ag⟩, ⟨bc, be, bg⟩, ⟨ce, cg⟩, eg⟩ := hn
  have ha : a ∈ t := h (by simp)
  have hb : b ∈ t.erase a := Finset.mem_erase.mpr ⟨Ne.symm ab, h (by simp)⟩
  have hc : c ∈ (t.erase a).erase b := Finset.mem_erase.mpr ⟨Ne.symm bc, Finset.mem_erase.mpr ⟨Ne.symm ac, h (by simp)⟩⟩
  have he : e ∈ ((t.erase a).erase b).erase c :=
    Finset.mem_erase.mpr ⟨Ne.symm ce, Finset.mem_erase.mpr ⟨Ne.symm be, Finset.mem_erase.mpr ⟨Ne.symm ae, h (by simp)⟩⟩⟩
  have hg : g ∈ (((t.erase a).erase b).erase c).erase e := Finset.mem_erase.mpr ⟨Ne.symm eg,
    Finset.mem_erase.mpr ⟨Ne.symm cg, Finset.mem_erase.mpr ⟨Ne.symm bg, Finset.mem_erase.mpr ⟨Ne.symm ag, h (by simp)⟩⟩⟩⟩
  rw [SparseCore.bigSep_erase' ha, SparseCore.bigSep_erase' hb, SparseCore.bigSep_erase' hc, SparseCore.bigSep_erase' he, SparseCore.bigSep_erase' hg]

abbrev cell (g : DmaSem sig) : GSem nD τ sig := (thr d L, SemLoc.dma g)

omit [FloatOps F] in
theorem cell_own {g : DmaSem sig} (h : (SemLoc.dma g : SemLoc sig).isScoped .scVector = true) : cell d L g ∈ ownCells (thr d L) :=
  mem_ownCells.mpr ⟨rfl, h⟩

omit [FloatOps F] in
theorem cells_nodup : [cell d L (inSem 0), cell d L (inSem 1), cell d L (outSem 0), cell d L (outSem 1), cell d L cc0_scoped4.sem].Nodup := by
  have h : [inSem 0, inSem 1, outSem 0, outSem 1, cc0_scoped4.sem].Nodup := by decide +kernel
  exact h.map (f := cell d L) fun a b e => by injection (Prod.mk.inj e).2

abbrev semsRest : sProp 𝕄 := bigSep ((((((ownCells (thr d L)).erase (cell d L (inSem 0))).erase (cell d L (inSem 1))).erase (cell d L (outSem 0))).erase
  (cell d L (outSem 1))).erase (cell d L cc0_scoped4.sem)) fun g => semVal g 0

omit [FloatOps F] in
theorem ownSems0_V : (ownSems0 (thr d L) : sProp 𝕄)
    = iprop(sem0 d L (inSem 0) ∗ sem0 d L (inSem 1) ∗ sem0 d L (outSem 0) ∗ sem0 d L (outSem 1) ∗ sem0 d L cc0_scoped4.sem ∗ semsRest d L) := by
  unfold SparseCore.Cfg.ownSems0
  refine take_five (fun g hg => ?_) (cells_nodup d L)
  simp only [Finset.mem_insert, Finset.mem_singleton] at hg
  rcases hg with rfl | rfl | rfl | rfl | rfl <;> exact cell_own d L (by decide +kernel)

abbrev bufsRest : sProp 𝕄 := bigSep (((ownRefs (τ := τ) (.scVector (cV L) (jV L))).erase ((Proc.scVector (cV L) (jV L)).devRef cc0_scoped0)).erase
  ((Proc.scVector (cV L) (jV L)).devRef cc0_scoped2)) fun b => iprop(∃ f, ((d, b) : Loc nD τ sig) ↦{fullShare} f)

omit [FloatOps F] in
theorem ownBufs_V : (ownBufs (thr d L) : sProp 𝕄)
    = iprop((∃ f, inLoc d L ↦{fullShare} f) ∗ (∃ f, outLoc d L ↦{fullShare} f) ∗ bufsRest d L) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

omit [FloatOps F] in
theorem in_cut : iprop(∃ f, inLoc d L ↦{fullShare} f) ⊢ (iprop((∃ f, own d L (inM 0) f) ∗ ∃ f, own d L (inM 1) f) : sProp 𝕄) := by
  iintro ⟨%f, H⟩
  ihave H := (Entails.of_eq (show (inLoc d L ↦{fullShare} f : sProp 𝕄) = iprop(own d L (inM 0) f ∗ own d L (inM 1) f) from
    (in_split d L f).trans (bigSep_fin_two _))) $$ H
  icases H with ⟨H0, H1⟩
  isplitl [H0]; · iexists f; iexact H0
  iexists f; iexact H1

omit [FloatOps F] in
theorem out_cut : iprop(∃ f, outLoc d L ↦{fullShare} f) ⊢ (iprop((∃ f, own d L (outM 0) f) ∗ ∃ f, own d L (outM 1) f) : sProp 𝕄) := by
  iintro ⟨%f, H⟩
  ihave H := (Entails.of_eq (show (outLoc d L ↦{fullShare} f : sProp 𝕄) = iprop(own d L (outM 0) f ∗ own d L (outM 1) f) from
    (out_split d L f).trans (bigSep_fin_two _))) $$ H
  icases H with ⟨H0, H1⟩
  isplitl [H0]; · iexists f; iexact H0
  iexists f; iexact H1

/-- A tile's run, from its share of the work and its own buffers and semaphores. -/
theorem tile_run (hF : (K (F := F)).Facts) (I : Buf (Elt F) (iLoc d)) (X : Buf (Elt F) (xLoc d)) (O0 : Buf (Elt F) (oLoc d)) (q : PosShare TreeShare)
    (hI : ∀ j, (I j).toNat < 8192) (O : CellTallies nD τ sig (HIx 1)) (W : Waits sig (HIx 1)) (hO : ∀ g, O g none = 0) :
    iprop(levAts (K (F := F)).L (K (F := F)).lev ∗ emp
        ∗ (idxAll d L I ∗ tabPts d L X q ∗ resAll d L O0)
        ∗ scopedBufs (thr d L) ∗ scopedSems0 (thr d L) ∗ owes (thr d L) O W)
      ⊢ wp frame (wpE (defs₀ (F := F)) 𝒱₀ (thr d L) none) Set.univ
          (cc0_gather_kernel L xV (Memref.isWhole_whole _) iV (Memref.isWhole_whole _) oV (Memref.isWhole_whole _)
            inV (Memref.isWhole_whole _) cc0_scoped1 outV (Memref.isWhole_whole _) cc0_scoped3 cc0_scoped4)
          fun _ => iprop((idxAll d L I ∗ tabPts d L X q ∗ resAll d L (gathered I X))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨Hin, Hout, Hbufs⟩, ⟨Hs0, Hs1, Ht0, Ht1, Hg, Hsems⟩, HO⟩
  ihave Hmw := (show levAts (K (F := F)).L (K (F := F)).lev ⊢ Transfers.MayWaits (thr d L) (default : HIx 1) O from
    (K (F := F)).mayWaits_none (thr := thr d L) hO) $$ Hlv
  ihave Hin := (in_cut d L) $$ Hin
  icases Hin with ⟨Hin0, Hin1⟩
  ihave Hout := (out_cut d L) $$ Hout
  icases Hout with ⟨Hout0, Hout1⟩
  iapply (wp_wand_r frame _ Set.univ)
  isplitr [Hbufs Hsems]
  · iapply (body_wp d L I X hI q O0 O W)
    isplitl [Hmw]; · iexact Hmw
    isplitl [HO]
    · iexists W; isplitr
      · ipureintro; exact fun p hp => Or.inl hp
      · iexact HO
    isplitl [Hx]; · iexact Hx
    isplitl [Hg]; · iexact Hg
    isplitl [Hi]; · iexact Hi
    isplitl [Ho]; · iexact Ho
    unfold inFree outFree
    isplitl [Hin0 Hs0]; · isplitl [Hin0] <;> iassumption
    isplitl [Hin1 Hs1]; · isplitl [Hin1] <;> iassumption
    isplitl [Hout0 Ht0]; · isplitl [Hout0] <;> iassumption
    isplitl [Hout1] <;> iassumption
  iintro %u H
  unfold inFree outFree
  icases H with ⟨Hw, Hx, Hg, Hi, Ho, ⟨Hin0, Hs0⟩, ⟨Hin1, Hs1⟩, ⟨Hout0, Ht0⟩, Hout1, Ht1⟩
  icases Hw with ⟨%W', %hW', HO⟩
  isplitl [Hi Hx Ho]
  · isplitl [Hi]; · iexact Hi
    isplitl [Hx]; · iexact Hx
    iexact Ho
  isplitl [Hin0 Hin1 Hout0 Hout1 Hbufs]
  · isplitl [Hin0 Hin1]
    · iapply (in_join d L); isplitl [Hin0] <;> iassumption
    isplitl [Hout0 Hout1]
    · iapply (out_join d L); isplitl [Hout0] <;> iassumption
    iexact Hbufs
  isplitl [Hs0 Hs1 Ht0 Ht1 Hg Hsems]
  · isplitl [Hs0]; · iexact Hs0
    isplitl [Hs1]; · iexact Hs1
    isplitl [Ht0]; · iexact Ht0
    isplitl [Ht1]; · iexact Ht1
    isplitl [Hg]; · iexact Hg
    iexact Hsems
  iexists W'; isplitr
  · ipureintro; exact fun p hp => (hW' p hp).imp_right Or.inl
  · iexact HO

end Tile

theorem defs₀_vector (c : Fin τ.nSC) (s : Fin τ.nSub) :
    defs₀ (F := F) (.scVector c s) 0 ()
      = SparseCore.onTile hcore0 hsub0 (fun c s => cc0_gather_kernel (coordsV c s) xV (Memref.isWhole_whole _) iV (Memref.isWhole_whole _) oV (Memref.isWhole_whole _)
            inV (Memref.isWhole_whole _) cc0_scoped1 outV (Memref.isWhole_whole _) cc0_scoped3 cc0_scoped4) ⟨⟩ c s := rfl

set_option maxRecDepth 16384 in
theorem tileObl (hF : (K (F := F)).Facts) (hI : InTable m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_run d (coordsV ⟨_, hci.1⟩ ⟨_, hci.2⟩) hF (m (iLoc d)) (m (xLoc d)) (m (oLoc d)) (tq (Fin.cast nCore_zero c) (Fin.cast nSub_zero i)) (hI d) O W hO

theorem vecSplit : (K (F := F)).VecSplit' (P m) 0 := by
  intro d c
  show (bigSep Finset.univ fun s : Fin 16 => share m d (Fin.cast nCore_zero c) s (m (oLoc d))) ⊢ |={Set.univ}=> iprop(
      (bigSep Finset.univ fun s : Fin 16 => share m d (Fin.cast nCore_zero c) s (m (oLoc d)))
      ∗ ((bigSep Finset.univ fun s : Fin 16 => share m d (Fin.cast nCore_zero c) s (rows m d))
          -∗ bigSep Finset.univ fun s : Fin 16 => share m d (Fin.cast nCore_zero c) s (rows m d)))
  iintro H; imodintro
  isplitl [H]; · iexact H
  iintro H; iexact H

/-! ## The launch -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

omit [FloatOps F] in
/-- The whole arrays are the tiles' shares, and what the TensorCore keeps of the table. -/
theorem shares_eq (d : Dev nD) (g : Buf (Elt F) (oLoc d)) :
    iprop((xLoc d ↦{fullShare} m (xLoc d)) ∗ (iLoc d ↦{fullShare} m (iLoc d)) ∗ (oLoc d ↦{fullShare} g))
      ⊣⊢ (iprop((xLoc d ↦{tRest} m (xLoc d)) ∗ bigSep Finset.univ fun c : Fin 2 => bigSep Finset.univ fun s : Fin 16 => share m d c s g) : sProp 𝕄) := by
  have e : (bigSep Finset.univ fun c : Fin 2 => bigSep Finset.univ fun s : Fin 16 => share m d c s g)
      = (iprop((bigSep Finset.univ fun c : Fin 2 => bigSep Finset.univ fun s : Fin 16 => idxAll d (coordsV c s) (m (iLoc d)))
        ∗ (bigSep Finset.univ fun c : Fin 2 => bigSep Finset.univ fun s : Fin 16 => tabPts d (coordsV c s) (m (xLoc d)) (tq c s))
        ∗ bigSep Finset.univ fun c : Fin 2 => bigSep Finset.univ fun s : Fin 16 => resAll d (coordsV c s) g) : sProp 𝕄) := by
    rw [← bigSep_sep', ← bigSep_sep']
    refine bigSep_congr fun c _ => ?_
    rw [← bigSep_sep', ← bigSep_sep']
  rw [e, tab_split, idx_split, res_split]
  constructor
  · iintro ⟨⟨Hr, Hx⟩, Hi, Ho⟩
    isplitl [Hr]; · iexact Hr
    isplitl [Hi]; · iexact Hi
    isplitl [Hx]; · iexact Hx
    iexact Ho
  · iintro ⟨Hr, Hi, Hx, Ho⟩
    isplitl [Hr Hx]
    · isplitl [Hr]; · iexact Hr
      iexact Hx
    isplitl [Hi]; · iexact Hi
    iexact Ho

theorem st0_eq (d : Dev nD) : (bigSep Finset.univ fun c : Fin ((K (F := F)).nCore 0) => (P m).st 0 d c)
    = bigSep Finset.univ fun c : Fin 2 => bigSep Finset.univ fun s : Fin 16 => share m d c s (m (oLoc d)) := rfl
theorem dn0_eq (d : Dev nD) : (bigSep Finset.univ fun c : Fin ((K (F := F)).nCore 0) => (P m).dn 0 d c)
    = bigSep Finset.univ fun c : Fin 2 => bigSep Finset.univ fun s : Fin 16 => share m d c s (rows m d) := rfl

abbrev FIN (d : Dev nD) : sProp 𝕄 :=
  iprop((xLoc d ↦{fullShare} m (xLoc d)) ∗ (iLoc d ↦{fullShare} m (iLoc d)) ∗ (oLoc d ↦{fullShare} rows m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, H, Hts, -⟩, -⟩
  ihave H := (shares_eq m d (m (oLoc d))).1 $$ H
  icases H with ⟨Hr, H⟩
  iapply ((K (F := F)).wp_run (D (F := F)) 𝒱 (EH := EH) (P := P m) κ d 0) $$ [Hst H Hr Hb Hts]
  isplitr; · iexact Hctx
  isplitl [Hst]; · iexact Hst
  isplitl [H]; · iapply (Entails.of_eq (st0_eq m d).symm); iexact H
  iintro ⟨Hst, Hdn⟩
  ihave H := (Entails.of_eq (dn0_eq m d)) $$ Hdn
  imodintro
  isplitl [Hst]; · iexact Hst
  isplitl [H Hr]
  · iapply (shares_eq m d (rows m d)).2
    isplitl [Hr]; · iexact Hr
    iexact H
  isplitl [Hb] <;> iassumption

def fq (d : Dev nD) (s' : Phys nD τ sig (Elt F)) : Prop :=
  s'.mem.mem (xLoc d) = m (xLoc d) ∧ s'.mem.mem (iLoc d) = m (iLoc d) ∧ s'.mem.mem (oLoc d) = rows m d

set_option maxRecDepth 16384 in
theorem hfin (d : Dev nD) (s' : Phys nD τ sig (Elt F)) : iprop(FIN m d ∗ SI s') ⊢ (⌜fq m d s'⌝ : sProp 𝕄) := by
  iintro ⟨⟨Hx, Hi, Ho⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (SI_pointsTo_agree (st := s') (ℓ := oLoc d) (I := Finset.univ) (q := fullShare) (f := rows m d)) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-- The end of every execution. -/
def QC : PUnit × MemSt nD τ sig (Elt F) → Prop := fun r =>
  (∀ c : Dev nD, r.2.mem (xLoc c) = m (xLoc c) ∧ r.2.mem (iLoc c) = m (iLoc c) ∧ r.2.mem (oLoc c) = rows m c) ∧ r.2.sem = fun _ => 0

theorem run_main [∀ e, Nonempty (Elt F e)] (hI : InTable m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hI)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather

end
-- ==== Proof.Take.lean ====
/-
  The reference's value. `jnp.take` wraps a negative index, replaces a row whose index is out of range by NaN, and clamps
  the index that it reads at; where every index is below 8192 none of this has an effect, and the value is `gathered`.
-/
module

public import proofs.«01_k».proof.Proof.Launch
public import proofs.«01_k».proof.Proof.Gen.ReferenceIdeal
public import Idealize.ShloMosaic.Lib.Routing.Ops
public import Idealize.ShloMosaic.Lib.ReduceAll
public import Idealize.ShloMosaic.Lib.ValueLayout

@[expose] public section

noncomputable section

namespace Cert.Proof.Take

open Cert.ReferenceIdeal Cert.ReferenceIdeal.Gen
open Idealize.ShloMosaic
open Idealize.ShloMosaic.ValueIdx (ix2 eq_ix2)

variable {F : FTy → Type} [FloatOps F] (I : IVec S1x32768 32) (X : FVec F S8192x128 .f32)

/-- The list as a vector, its negative entries wrapped, and as a column. -/
abbrev flat : IVec S32768 32 := shapeCast _ I shapeCasts_S1x32768_S32768
abbrev wrapped : IVec S32768 32 :=
  select (cmpi .slt (flat I) (broadcastInDim S32768 ![] bcast_S_S32768 (constantI S_ 32 0#32)))
    (addi (flat I) (broadcastInDim S32768 ![] bcast_S_S32768 (constantI S_ 32 8192#32))) (flat I)
abbrev column : IVec S32768x1 32 := broadcastInDim S32768x1 ![0] bcast_S32768_S32768x1_0 (wrapped I)
/-- Which entries of the column are in range. -/
abbrev inRange : IVec S32768x1 1 :=
  andi (cmpi .sge (column I) (broadcastInDim S32768x1 ![] bcast_S_S32768x1 (constantI S_ 32 0#32)))
    (cmpi .sle (column I) (broadcastInDim S32768x1 ![0, 1] bcast_S1x1_S32768x1_0_1 (broadcastInDim S1x1 ![1] bcast_S1_S1x1_1 (constantI S1 32 8191#32))))
/-- The reference's value. -/
abbrev taken : FVec F S32768x128 .f32 :=
  select (broadcastInDim S32768x128 ![0] bcast_S32768_S32768x128_0
      (Host.reduce IntOp.andi (inRange I) (constantI S_ 1 1#1) reducesTo_S32768x1_S32768_d1 h_S_))
    (Host.gather gather_S8192x128_S32768x1_S32768x128_1_0_n_n_0_1_1128 X (column I))
    (broadcastInDim S32768x128 ![] bcast_S_S32768x128 (constant S_ .f32 0x7FC00000#32))

theorem flat_apply (k : S32768.Idx) : flat I k = I (ix2 0 (k 0)) := by
  have e : k = ValueIdx.ix1 (k 0) := by
    funext a; match a with | 0 => rfl
  rw [e]; exact ValueIdx.shapeCast_1a_a_apply I shapeCasts_S1x32768_S32768 (k 0)

theorem word_facts {v : BitVec 32} (h : v.toNat < 8192) :
    IntOp.cmpi .slt v 0#32 = 0#1 ∧ IntOp.andi (IntOp.cmpi .sge v 0#32) (IntOp.cmpi .sle v 8191#32) = 1#1 := by
  have e : v.toInt = v.toNat := by rw [BitVec.toInt_eq_toNat_cond]; omega
  constructor
  · simp only [IntOp.cmpi, BitVec.slt_eq_decide, e]
    rw [decide_eq_false (by simp)]; rfl
  · simp only [IntOp.cmpi, BitVec.sle_eq_decide, e]
    rw [decide_eq_true (by simp), decide_eq_true (by simp; omega)]; rfl

variable {I} (hI : ∀ j, (I j).toNat < 8192)
include hI

theorem wrapped_apply (k : S32768.Idx) : wrapped I k = I (ix2 0 (k 0)) := by
  show Scalar.select (IntOp.cmpi .slt (flat I k) 0#32) (IntOp.addi (flat I k) 8192#32) (flat I k) = _
  rw [flat_apply, (word_facts (hI _)).1]; rfl

theorem column_apply (y : S32768x1.Idx) : column I y = I (ix2 0 (y 0)) := by
  show wrapped I _ = _
  rw [wrapped_apply hI]; rfl

theorem inRange_apply (y : S32768x1.Idx) : inRange I y = 1#1 := by
  show IntOp.andi (IntOp.cmpi .sge (column I y) 0#32) (IntOp.cmpi .sle (column I y) 8191#32) = 1#1
  rw [column_apply hI]; exact (word_facts (hI _)).2

theorem taken_eq : taken I X = Gather.gathered I X := by
  funext r
  show Scalar.select (Host.reduce IntOp.andi (inRange I) (constantI S_ 1 1#1) reducesTo_S32768x1_S32768_d1 h_S_ _)
    (Host.gather gather_S8192x128_S32768x1_S32768x128_1_0_n_n_0_1_1128 X (column I) r) _ = _
  rw [Host.reduce_andi_one _ _ _ _ _ rfl (inRange_apply hI)]
  show Host.gather gather_S8192x128_S32768x1_S32768x128_1_0_n_n_0_1_1128 X (column I) r = _
  have hr : r = ix2 (r 0) (r 1) := eq_ix2 r
  rw [hr]
  refine (Routing.gather_row gather_S8192x128_S32768x1_S32768x128_1_0_n_n_0_1_1128 rfl rfl rfl rfl rfl X (column I) (r 0) (r 1)
    ⟨(I (ix2 0 (r 0))).toNat, hI _⟩ ?_ (by decide)).trans ?_
  · rw [column_apply hI]; simp [ix2]
  · refine congrArg X (congrArg (ix2 · (r 1)) (Fin.ext ?_))
    exact (Nat.min_eq_left (Nat.le_pred_of_lt (hI _))).symm

end Cert.Proof.Take

end
-- ==== Proof.Finish.lean ====
/-
  The call after the gather. One point of the grid is one batch entry: it writes the entry's projected inputs plus their
  differences from the gathered rows, and adds the squares of those differences to the running loss, which the first
  point sets to zero and the last one scales.

  First what a point leaves in each of its blocks, in each case (`out_A_2` to `out_C_3`); then the running loss by
  induction over the points (`running`, `last`), the two arrays after the last point (`final2`, `final3`) and the run
  (`run_kernel`). Last, the reference's results are the same functions (`FinishReference.first` and `second`).
-/
module

public import proofs.«01_k».proof.Defs
public import proofs.«01_k».proof.Proof.Gen.FinishIdeal.Value
public import proofs.«01_k».proof.Proof.Gen.FinishRefIdeal.Run
public import Idealize.ShloMosaic.Lib.Pipeline.Value
public import Idealize.ShloMosaic.Lib.Tactic
public import Idealize.ShloMosaic.Lib.Quiescent
public import Idealize.ShloMosaic.Lib.Pointwise

@[expose] public section

noncomputable section

namespace Finish

open Idealize.ShloMosaic Idealize.ShloMosaic.TcCoe Idealize.SL.Sem
open Idealize.ShloMosaic.Pipeline (Dat)
open Cert.FinishIdeal Cert.FinishIdeal.Gen

section Cases

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

theorem idx11 (j : S1x1.Idx) : j = ix2 0 0 := funext fun a => by fin_cases a <;> exact Subsingleton.elim (α := Fin 1) _ _

/-- The first 64 words of each of a block's 1024 rows. -/
abbrev words64 (x0 : Vec F S1x1024x128 .f32) : Vec F S1x1024x64 .f32 :=
  View.ld x0 (Rect.unit (s := S1x1024x128) ![0, 0, 0] S1x1024x64.size inb_S1x1024x128_S1x1024x64_0_0_0)

variable (c : Dev nD) (i : grid0.Coords) (arg1 : Memref sig .tc .vmem S1x1024x128 .f32) (harg1 : arg1.IsWhole)
  (arg2 : Memref sig .tc .vmem S1x64x1024 .f32) (harg2 : arg2.IsWhole) (arg3 : Memref sig .tc .vmem S1x64x1024 .f32)
  (harg3 : arg3.IsWhole) (arg4 : Memref sig .tc .smem S1x1 .f32) (harg4 : arg4.IsWhole)
  (x0 : Vec F S1x1024x128 .f32) (x1 : Vec F S1x64x1024 .f32) (xo3 : Vec F S1x1 .f32)

/-- The output block in case A. -/
theorem out_A_2 (hc0 : cond0_0 i) (hc1 : ¬cond0_1 i) :
    out0_A_2 c i arg1 harg1 arg2 harg2 arg3 harg3 arg4 harg4 hc0 hc1 x0 x1 = k0_pay3 (words64 x0) x1 := by
  unfold out0_A_2
  rw [View.read_writes_eq_canon _ _ _ (cover0_A_2 c i arg1 harg1 arg2 harg2 arg3 harg3 arg4 harg4 hc0 hc1 x0 x1)]
  unfold kernelRun0_A
  dsimp only
  rw [View.canon_unit_zero hz3]
  simp only [View.readAt_eq_ld, harg1.read_unread, harg2.read_unread, View.ld_unit_zero (S := S1x64x1024) hz3]

/-- The output block in case B. -/
theorem out_B_2 (hc0 : ¬cond0_0 i) (hc1 : ¬cond0_1 i) :
    out0_B_2 c i arg1 harg1 arg2 harg2 arg3 harg3 arg4 harg4 hc0 hc1 x0 x1 xo3 = k0_pay3 (words64 x0) x1 := by
  unfold out0_B_2
  rw [View.read_writes_eq_canon _ _ _ (cover0_B_2 c i arg1 harg1 arg2 harg2 arg3 harg3 arg4 harg4 hc0 hc1 x0 x1 xo3)]
  unfold kernelRun0_B
  dsimp only
  rw [View.canon_unit_zero hz3]
  simp only [View.readAt_eq_ld, harg1.read_unread, harg2.read_unread, View.ld_unit_zero (S := S1x64x1024) hz3]

/-- The output block in case C. -/
theorem out_C_2 (hc0 : ¬cond0_0 i) (hc1 : cond0_1 i) :
    out0_C_2 c i arg1 harg1 arg2 harg2 arg3 harg3 arg4 harg4 hc0 hc1 x0 x1 xo3 = k0_pay3 (words64 x0) x1 := by
  unfold out0_C_2
  rw [View.read_writes_eq_canon _ _ _ (cover0_C_2 c i arg1 harg1 arg2 harg2 arg3 harg3 arg4 harg4 hc0 hc1 x0 x1 xo3)]
  unfold kernelRun0_C
  dsimp only
  rw [View.canon_unit_zero hz3]
  simp only [View.readAt_eq_ld, harg1.read_unread, harg2.read_unread, View.ld_unit_zero (S := S1x64x1024) hz3]

/-- The running loss in case A. -/
theorem out_A_3 (hc0 : cond0_0 i) (hc1 : ¬cond0_1 i) :
    out0_A_3 c i arg1 harg1 arg2 harg2 arg3 harg3 arg4 harg4 hc0 hc1 x0 x1 = fun _ => k0_pay4 (words64 x0) x1 (FloatOps.ofBits .f32 0#32) := by
  unfold out0_A_3
  rw [View.read_writes_eq_canon _ _ _ (cover0_A_3 c i arg1 harg1 arg2 harg2 arg3 harg3 arg4 harg4 hc0 hc1 x0 x1)]
  unfold kernelRun0_A
  dsimp only
  sl_unfold_words
  rw [View.canon_cons_unit_zero (S := S1x1) hz2]
  simp only [View.readAt_eq_ld, harg1.read_unread, harg2.read_unread, harg4.read_unread, View.ld_unit_zero (S := S1x64x1024) hz3,
    View.ld_unit_zero (S := S1x1) hz2]
  rfl

/-- The running loss in case B. -/
theorem out_B_3 (hc0 : ¬cond0_0 i) (hc1 : ¬cond0_1 i) :
    out0_B_3 c i arg1 harg1 arg2 harg2 arg3 harg3 arg4 harg4 hc0 hc1 x0 x1 xo3 = fun _ => k0_pay4 (words64 x0) x1 (xo3 (ix2 0 0)) := by
  unfold out0_B_3
  rw [View.read_writes_eq_canon _ _ _ (cover0_B_3 c i arg1 harg1 arg2 harg2 arg3 harg3 arg4 harg4 hc0 hc1 x0 x1 xo3)]
  unfold kernelRun0_B
  dsimp only
  sl_unfold_words
  rw [View.canon_cons_unit_zero (S := S1x1) hz2]
  simp only [View.readAt_eq_ld, harg1.read_unread, harg2.read_unread, harg4.read_unread, View.ld_unit_zero (S := S1x64x1024) hz3,
    View.ld_unit_zero (S := S1x1) hz2]
  exact funext fun _ => congrArg (fun v => k0_pay4 (words64 x0) x1 v) (congrArg xo3 (idx11 _))

/-- The running loss in case C. -/
theorem out_C_3 (hc0 : ¬cond0_0 i) (hc1 : cond0_1 i) :
    out0_C_3 c i arg1 harg1 arg2 harg2 arg3 harg3 arg4 harg4 hc0 hc1 x0 x1 xo3 = fun _ => k0_pay5 (k0_pay4 (words64 x0) x1 (xo3 (ix2 0 0))) := by
  unfold out0_C_3
  rw [View.read_writes_eq_canon _ _ _ (cover0_C_3 c i arg1 harg1 arg2 harg2 arg3 harg3 arg4 harg4 hc0 hc1 x0 x1 xo3)]
  unfold kernelRun0_C
  dsimp only
  sl_unfold_words
  rw [View.canon_cons_unit_zero (S := S1x1) hz2]
  simp only [View.readAt_eq_ld, harg1.read_unread, harg2.read_unread, harg4.read_unread, View.ld_unit_zero (S := S1x64x1024) hz3,
    View.ld_unit_zero (S := S1x1) hz2]
  exact funext fun _ => congrArg (fun v => k0_pay5 (k0_pay4 (words64 x0) x1 v)) (congrArg xo3 (idx11 _))

end Cases

section Value

variable (m : (ℓ : Loc nD τ sig) → Buf (Elt Ideal) ℓ)

/-- The gathered rows, one group of 1024 per batch entry. -/
abbrev rows (c : Dev nD) : FVec Ideal S32x1024x128 .f32 :=
  shapeCast S32x1024x128 (m ((c : Thread nD τ).loc main_arg0)) shapeCasts_S32768x128_S32x1024x128

abbrev ze (c : Dev nD) : FVec Ideal S32x64x1024 .f32 := m ((c : Thread nD τ).loc main_arg1)

theorem V_rows (c : Dev nD) : V m c main_v0 = rows m c := by
  unfold V
  after_results
  rfl

theorem index0 : ∀ t : Fin cfg0.N, win0_0.index t = ![t.val, 0, 0] :=
  (by decide +kernel : ∀ t : Fin grid0.N, win0_0.index t = ![t.val, 0, 0])
theorem index1 : ∀ t : Fin cfg0.N, win0_1.index t = ![t.val, 0, 0] :=
  (by decide +kernel : ∀ t : Fin grid0.N, win0_1.index t = ![t.val, 0, 0])
theorem index2 : ∀ t : Fin cfg0.N, win0_2.index t = ![t.val, 0, 0] :=
  (by decide +kernel : ∀ t : Fin grid0.N, win0_2.index t = ![t.val, 0, 0])

/-- A point of the grid is a batch entry. -/
abbrev batch (t : Fin cfg0.N) : Fin 32 := ⟨t.val, lt_of_lt_of_eq t.isLt N_0⟩

/-- The rows that a point reads. -/
theorem iblk0_apply (c : Dev nD) (t : Fin cfg0.N) (a : Fin 1) (p : Fin 1024) (d : Fin 128) :
    (iblk m c 0 t : Vec Ideal S1x1024x128 .f32) (ix3 a p d) = rows m c (ix3 (batch t) p d) := by
  unfold iblk
  rw [View.read_apply]
  show V m c main_v0 _ = _
  rw [V_rows]
  congr 1
  funext k
  apply Fin.ext
  match k with
  | ⟨0, _⟩ => show win0_0.index t 0 * 1 + 1 * a.val = t.val; rw [index0]; simp
  | ⟨1, _⟩ => show win0_0.index t 1 * 1024 + 1 * p.val = p.val; rw [index0]; simp
  | ⟨2, _⟩ => show win0_0.index t 2 * 128 + 1 * d.val = d.val; rw [index0]; simp

/-- The projected inputs that a point reads. -/
theorem iblk1_apply (c : Dev nD) (t : Fin cfg0.N) (a : Fin 1) (d : Fin 64) (p : Fin 1024) :
    (iblk m c 1 t : Vec Ideal S1x64x1024 .f32) (ix3 a d p) = ze m c (ix3 (batch t) d p) := by
  unfold iblk
  rw [View.read_apply]
  show V m c main_arg1 _ = _
  rw [V_main_arg1]
  show m _ _ = m _ _
  congr 1
  funext k
  apply Fin.ext
  match k with
  | ⟨0, _⟩ => show win0_1.index t 0 * 1 + 1 * a.val = t.val; rw [index1]; simp
  | ⟨1, _⟩ => show win0_1.index t 1 * 64 + 1 * d.val = d.val; rw [index1]; simp
  | ⟨2, _⟩ => show win0_1.index t 2 * 1024 + 1 * p.val = p.val; rw [index1]; simp

/-- The difference between a gathered word and the projected input it stands for. -/
def diff (x : FVec Ideal S32x1024x128 .f32) (y : FVec Ideal S32x64x1024 .f32) (b : Fin 32) (d : Fin 64) (p : Fin 1024) : EReal :=
  x (ix3 b p ⟨d.val, by omega⟩) - y (ix3 b d p)

/-- The squared differences of one batch entry. -/
def sq (x : FVec Ideal S32x1024x128 .f32) (y : FVec Ideal S32x64x1024 .f32) (b : Fin 32) : EReal :=
  ∑ d : Fin 64, ∑ p : Fin 1024, diff x y b d p * diff x y b d p

/-- The stored block at an index. -/
theorem pay3_apply (x0 : Vec Ideal S1x1024x128 .f32) (x1 : Vec Ideal S1x64x1024 .f32) (a : Fin 1) (d : Fin 64) (p : Fin 1024) :
    k0_pay3 (words64 x0) x1 (ix3 a d p) = x1 (ix3 0 d p) + (x0 (ix3 0 p ⟨d.val, by omega⟩) - x1 (ix3 0 d p)) := by
  pointwise [k0_pay3, k0_pay2, k0_pay1, words64]

/-- The running loss after a point, from the blocks it reads. -/
theorem pay4_eq (x0 : Vec Ideal S1x1024x128 .f32) (x1 : Vec Ideal S1x64x1024 .f32) (v : EReal) :
    k0_pay4 (F := Ideal) (words64 x0) x1 v = v + ∑ d : Fin 64, ∑ p : Fin 1024,
      (x0 (ix3 0 p ⟨d.val, by omega⟩) - x1 (ix3 0 d p)) * (x0 (ix3 0 p ⟨d.val, by omega⟩) - x1 (ix3 0 d p)) := by
  pointwise [k0_pay4, k0_pay2, k0_pay1, words64]

/-- What a point leaves in the output block. -/
theorem after_2 (c : Dev nD) (t : Fin cfg0.N) :
    (outsAt0 m c t.val t.isLt).1 = k0_pay3 (words64 (iblk m c 0 t)) (iblk m c 1 t) := by
  have hN : t.val < 32 := (batch t).isLt
  by_cases h0 : t.val % 32 = 0
  · rw [outsAt0_A m c t h0 (by omega), out_A_2]
  · by_cases h1 : t.val % 32 = 31
    · rw [outsAt0_C m c t h0 h1, out_C_2]
    · rw [outsAt0_B m c t h0 h1, out_B_2]

/-- The sum that a point adds to the running loss. -/
theorem pay4_block (c : Dev nD) (t : Fin cfg0.N) (v : EReal) :
    k0_pay4 (F := Ideal) (words64 (iblk m c 0 t)) (iblk m c 1 t) v = v + sq (rows m c) (ze m c) (batch t) := by
  rw [pay4_eq]
  refine congrArg (v + ·) (Finset.sum_congr rfl fun d _ => Finset.sum_congr rfl fun p _ => ?_)
  rw [iblk0_apply, iblk1_apply]
  rfl

/-- The sum of the squared differences of the batch entries up to `n`. -/
def upTo (x : FVec Ideal S32x1024x128 .f32) (y : FVec Ideal S32x64x1024 .f32) (n : ℕ) (hn : n ≤ 32) : EReal :=
  ∑ b : Fin n, sq x y ⟨b.val, by omega⟩

theorem upTo_succ (x : FVec Ideal S32x1024x128 .f32) (y : FVec Ideal S32x64x1024 .f32) (n : ℕ) (hn : n + 1 ≤ 32) :
    upTo x y (n + 1) hn = upTo x y n (by omega) + sq x y ⟨n, by omega⟩ := Fin.sum_univ_castSucc _

theorem zero_eq : (FloatOps.ofBits .f32 0#32 : Ideal .f32) = (0 : EReal) := by
  show Ideal.ofBits .f32 0#32 = 0
  simp [Ideal.ofBits, Ideal.ieee]

/-- The running loss before the last point. -/
theorem running (c : Dev nD) : ∀ (n : ℕ) (h : n < cfg0.N) (hn : n < 31),
    (outsAt0 m c n h).2 = fun _ => upTo (rows m c) (ze m c) (n + 1) (by omega)
  | 0, h, hn => by
    rw [outsAt0_A m c ⟨0, h⟩ rfl (by dsimp only; omega), out_A_3]
    refine funext fun _ => ?_
    rw [pay4_block, zero_eq, upTo_succ]
    exact congrArg (· + _) (Finset.sum_empty).symm
  | n + 1, h, hn => by
    have h0 : ¬ (⟨n + 1, h⟩ : Fin cfg0.N).val % 32 = 0 := by dsimp only; omega
    have h1 : ¬ (⟨n + 1, h⟩ : Fin cfg0.N).val % 32 = 31 := by dsimp only; omega
    rw [outsAt0_B m c ⟨n + 1, h⟩ h0 h1, out_B_3]
    refine funext fun _ => ?_
    rw [pay4_block, upTo_succ]
    exact congrArg (· + _) (congrFun (running c n (Nat.lt_of_succ_lt h) (by omega)) _)

/-- The loss that the last point leaves. -/
theorem last (c : Dev nD) (t : Fin cfg0.N) (ht : t.val = 31) :
    (outsAt0 m c t.val t.isLt).2 = fun _ => k0_pay5 (F := Ideal) (upTo (rows m c) (ze m c) 32 le_rfl) := by
  have h0 : ¬ t.val % 32 = 0 := by omega
  have h1 : t.val % 32 = 31 := by omega
  rw [outsAt0_C m c t h0 h1, out_C_3]
  refine funext fun _ => congrArg (k0_pay5 (F := Ideal)) (?_ : k0_pay4 (F := Ideal) _ _ _ = _)
  have hb : batch t = ⟨31, by omega⟩ := Fin.ext ht
  rw [pay4_block, upTo_succ _ _ 31, hb]
  have e : (outsAt0 m c (t.val - 1) (Nat.lt_of_le_of_lt (Nat.sub_le _ _) t.isLt)).2 = fun _ => upTo (rows m c) (ze m c) 31 (by omega) := by
    have := running m c (t.val - 1) (Nat.lt_of_le_of_lt (Nat.sub_le _ _) t.isLt) (by omega)
    rw [this]
    have e2 : t.val - 1 + 1 = 31 := by omega
    refine funext fun _ => ?_
    congr 1
  exact congrArg (· + _) (congrFun e _)

/-- The first result: the projected inputs plus the differences. -/
def result2 (c : Dev nD) : FVec Ideal S32x64x1024 .f32 := fun j =>
  ze m c (ix3 (j 0) (j 1) (j 2)) + diff (rows m c) (ze m c) (j 0) (j 1) (j 2)

/-- The second result: the loss. -/
def result3 (c : Dev nD) : FVec Ideal S1x1 .f32 := fun _ => k0_pay5 (F := Ideal) (upTo (rows m c) (ze m c) 32 le_rfl)

theorem pay3_block (c : Dev nD) (t : Fin cfg0.N) (a : Fin 1) (d : Fin 64) (p : Fin 1024) :
    k0_pay3 (words64 (iblk m c 0 t)) (iblk m c 1 t) (ix3 a d p) = result2 m c (ix3 (batch t) d p) := by
  rw [pay3_apply, iblk0_apply, iblk1_apply]
  rfl

/-- Each point writes its batch entry of the first result back. -/
theorem flushed2_eq (c : Dev nD) (t : Fin cfg0.N) (hf : (cfg0.win 2).flush t = true) :
    (dats m 0 c).flushed 2 t = ((cfg0.win 2).blk t).view.read (Elt Ideal) (result2 m c) := by
  rw [Cert.FinishIdeal.Value.flushed2, after_2]
  funext j
  rw [View.read_apply]
  have e : ((cfg0.win 2).blk t).view.emb j = (ix3 (batch t) (j 1) (j 2) : S32x64x1024.Idx) := by
    funext k
    apply Fin.ext
    match k with
    | ⟨0, _⟩ => show win0_2.index t 0 * 1 + 1 * (j 0).val = t.val; rw [index2]; have : (j 0).val < 1 := (j 0).isLt; simp; omega
    | ⟨1, _⟩ => show win0_2.index t 1 * 64 + 1 * (j 1).val = (j 1).val; rw [index2]; simp
    | ⟨2, _⟩ => show win0_2.index t 2 * 1024 + 1 * (j 2).val = (j 2).val; rw [index2]; simp
  rw [e]
  have e' : (cfg0.win 2).cut (grid0.coords t) (k0_pay3 (words64 (iblk m c 0 t)) (iblk m c 1 t)) j
      = k0_pay3 (words64 (iblk m c 0 t)) (iblk m c 1 t) (ix3 (j 0) (j 1) (j 2)) := by
    show k0_pay3 (words64 (iblk m c 0 t)) (iblk m c 1 t) _ = _
    congr 1
    exact eq_ix3 _
  exact e'.trans (pay3_block m c t (j 0) (j 1) (j 2))

/-- The first result after the last point. -/
theorem final2 (c : Dev nD) : (dats m 0 c).arrAt 2 cfg0.N = result2 m c :=
  (dats m 0 c).arrAt_eq_of_cover 2 (result2 m c) (flushed2_eq m c) fun i => by
    have h0 : (i 0 : Nat) < 32 := (i 0).isLt
    have h1 : (i 1 : Nat) < 64 := (i 1).isLt
    have h2 : (i 2 : Nat) < 1024 := (i 2).isLt
    let t : Fin cfg0.N := ⟨(i 0 : Nat), by rw [show cfg0.N = 32 from N_0]; exact h0⟩
    refine ⟨t, flush0_2 t, ?_⟩
    show i ∈ ((View.whole main_v1_0).slice (win0_2.rect t)).set
    rw [View.set_slice_whole, Rect.mem_set_unit]
    intro a
    match a with
      | ⟨0, _⟩ => show win0_2.index t 0 * 1 ≤ (i 0 : Nat) ∧ (i 0 : Nat) < win0_2.index t 0 * 1 + 1; rw [index2]; show t.val * 1 ≤ t.val ∧ t.val < t.val * 1 + 1; omega
      | ⟨1, _⟩ => show win0_2.index t 1 * 64 ≤ (i 1 : Nat) ∧ (i 1 : Nat) < win0_2.index t 1 * 64 + 64; rw [index2]; simp; omega
      | ⟨2, _⟩ => show win0_2.index t 2 * 1024 ≤ (i 2 : Nat) ∧ (i 2 : Nat) < win0_2.index t 2 * 1024 + 1024; rw [index2]; simp; omega

theorem index3 : ∀ t : Fin cfg0.N, win0_3.index t = ![0, 0] :=
  (by decide +kernel : ∀ t : Fin grid0.N, win0_3.index t = ![0, 0])

/-- The last point writes the loss back. -/
theorem flushed3_eq (c : Dev nD) (t : Fin cfg0.N) (hf : (cfg0.win 3).flush t = true) :
    (dats m 0 c).flushed 3 t = ((cfg0.win 3).blk t).view.read (Elt Ideal) (result3 m c) := by
  have h3 : t.val = 31 := by have := (flush0_3 t).mp hf; have := (batch t).isLt; dsimp only at *; omega
  rw [Cert.FinishIdeal.Value.flushed3, last m c t h3]
  rfl

/-- The loss after the last point. -/
theorem final3 (c : Dev nD) : (dats m 0 c).arrAt 3 cfg0.N = result3 m c :=
  (dats m 0 c).arrAt_eq_of_cover 3 (result3 m c) (flushed3_eq m c) fun i => by
    have h0 : (i 0 : Nat) < 1 := (i 0).isLt
    have h1 : (i 1 : Nat) < 1 := (i 1).isLt
    let t : Fin cfg0.N := ⟨31, by rw [show cfg0.N = 32 from N_0]; decide⟩
    refine ⟨t, (flush0_3 t).mpr rfl, ?_⟩
    show i ∈ ((View.whole main_v1_1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; rw [index3]; simp; omega
    | ⟨1, _⟩ => show win0_3.index t 1 * 1 ≤ (i 1 : Nat) ∧ (i 1 : Nat) < win0_3.index t 1 * 1 + 1; rw [index3]; simp; omega

/-- The run of the kernel: the results, and the arguments as launched. -/
theorem run_kernel (ρ : Dev nD → PrngReg) : θ_run defs (onTc (τ := τ) (main (F := Ideal))) ⟨m, fun _ => 0, ρ⟩ fun r => ∀ c : Dev nD,
      r.2.mem ((c : Thread nD τ).loc main_v1_0) = result2 m c
      ∧ r.2.mem ((c : Thread nD τ).loc main_v1_1) = result3 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c), (h c).2.1.trans (final3 m c), (h c).2.2⟩)
    (Cert.FinishIdeal.Value.run_blocks m ρ)

end Value

end Finish

/-! ## The reference's results -/

namespace FinishReference

open Idealize.ShloMosaic Idealize.SL.Sem
open Cert.FinishRefIdeal

/-- The reference's difference at an index. -/
theorem sub_apply (x : FVec Ideal S32x1024x128 .f32) (y : FVec Ideal S32x64x1024 .f32)
    (h1 : S32x1024x128.Slices ![0, 0, 0] S32x1024x64) (h2 : S32x1024x64.Transposes [0, 2, 1] S32x64x1024)
    (b : Fin 32) (d : Fin 64) (p : Fin 1024) :
    subf (transpose S32x64x1024 [0, 2, 1] (extractStridedSlice S32x1024x64 ![0, 0, 0] x h1) h2) y (ix3 b d p)
      = Finish.diff x y b d p := by
  pointwise [Finish.diff]

/-- The reference's first result. -/
theorem first (x : FVec Ideal S32x1024x128 .f32) (y : FVec Ideal S32x64x1024 .f32)
    (h1 : S32x1024x128.Slices ![0, 0, 0] S32x1024x64) (h2 : S32x1024x64.Transposes [0, 2, 1] S32x64x1024) :
    addf y (subf (transpose S32x64x1024 [0, 2, 1] (extractStridedSlice S32x1024x64 ![0, 0, 0] x h1) h2) y)
      = fun j => y (ix3 (j 0) (j 1) (j 2)) + Finish.diff x y (j 0) (j 1) (j 2) := by
  refine funext fun j => ?_
  exact (congrArg _ (eq_ix3 (n0 := 32) (n1 := 64) (n2 := 1024) j)).trans
    (congrArg (y (ix3 (j 0) (j 1) (j 2)) + ·) (sub_apply x y h1 h2 (j 0) (j 1) (j 2)))

/-- The sum over a whole array, as a sum over its three axes. -/
theorem sum_apply (z : FVec Ideal S32x64x1024 .f32) (v : FVec Ideal S_ .f32) (h : S32x64x1024.ReducesTo [0, 1, 2] S_)
    (h0 : 0 < S_.numel) (j : S_.Idx) :
    Host.reduceAdd z v h h0 j = v (Shape.Idx.first h0) + ∑ b : Fin 32, ∑ d : Fin 64, ∑ p : Fin 1024, z (ix3 b d p) := by
  pointwise

/-- The scaling of the sum of squares. -/
theorem loss_apply (R : FVec Ideal S_ .f32) (h : S_.ShapeCasts S1x1) (j : S1x1.Idx) (r : EReal) (hr : ∀ k, R k = r) :
    shapeCast S1x1 (mulf (addf (mulf (constant S_ .f32 0x3E800000#32) (Host.divf R (constant S_ .f32 0x4A000000#32)))
      (Host.divf R (constant S_ .f32 0x4A000000#32))) (constant S_ .f32 0x41200000#32)) h j
      = Cert.FinishIdeal.Gen.k0_pay5 (F := Ideal) r := by
  pointwise [Cert.FinishIdeal.Gen.k0_pay5, hr]

/-- The reference's loss. -/
theorem second (x : FVec Ideal S32x1024x128 .f32) (y d : FVec Ideal S32x64x1024 .f32)
    (hd : ∀ b e p, d (ix3 b e p) = Finish.diff x y b e p) (hr : S32x64x1024.ReducesTo [0, 1, 2] S_)
    (h0 : 0 < S_.numel) (h : S_.ShapeCasts S1x1) :
    shapeCast S1x1 (mulf (addf (mulf (constant S_ .f32 0x3E800000#32)
        (Host.divf (Host.reduceAdd (mulf d d) (constant S_ .f32 0x00000000#32) hr h0) (constant S_ .f32 0x4A000000#32)))
        (Host.divf (Host.reduceAdd (mulf d d) (constant S_ .f32 0x00000000#32) hr h0) (constant S_ .f32 0x4A000000#32)))
      (constant S_ .f32 0x41200000#32)) h
      = fun _ => Cert.FinishIdeal.Gen.k0_pay5 (F := Ideal) (Finish.upTo x y 32 le_rfl) := by
  refine funext fun j => loss_apply _ h j _ fun k => ?_
  rw [sum_apply, constant_apply, Finish.zero_eq, zero_add]
  refine Finset.sum_congr rfl fun b _ => Finset.sum_congr rfl fun e _ => Finset.sum_congr rfl fun p _ => ?_
  rw [mulf_apply, hd]
  rfl

end FinishReference
end
-- ==== Proof.ArgminBody.lean ====
/-
  The first TensorCore call's body as a few functions: the search for the nearest code is a fold over the 1024 groups of 8
  codes, so what the body computes is stated once for every group.
-/
module

public import proofs.«01_k».proof.Proof.Gen.ArgminIdeal

@[expose] public section

noncomputable section

namespace Argmin

open Idealize.ShloMosaic Idealize.SL.Sem
open Cert.ArgminIdeal Cert.ArgminIdeal.Gen

variable {F : FTy → Type} [FloatOps F]

/-! ## The search as a fold -/

/-- The word of the float `n`, for `n < 2 ^ 23`. -/
def word (n : ℕ) : BitVec 32 :=
  BitVec.ofNat 32 (if n = 0 then 0 else (127 + n.log2) * 8388608 + (n - 2 ^ n.log2) * 2 ^ (23 - n.log2))

theorem slices_group (n : ℕ) : S128x8x1024.Slices ![n % 128, 0, 0] S1x8x1024 := by
  have h : n % 128 < 128 := Nat.mod_lt _ (by decide)
  refine ⟨rfl, fun a => ?_⟩
  fin_cases a
  · show n % 128 + 1 ≤ 128
    omega
  · show 0 + 8 ≤ 8
    decide
  · show 0 + 1024 ≤ 1024
    decide

/-- Group `n % 128` of eight codes among a chunk's distances. -/
def group (d : FVec F S128x8x1024 .f32) (n : ℕ) : FVec F S8x1024 .f32 :=
  shapeCast S8x1024 (extractStridedSlice S1x8x1024 ![n % 128, 0, 0] d (slices_group n)) shapeCasts_S1x8x1024_S8x1024

/-- The least distances after `k` groups of a chunk, from those before it. -/
def best (d : FVec F S128x8x1024 .f32) (a : FVec F S8x1024 .f32) (k : ℕ) : FVec F S8x1024 .f32 :=
  Nat.rec a (fun k acc => select (cmpf .olt (group d k) acc) (group d k) acc) k

/-- The groups, counted from `n`, that the least distances after `k` groups of a chunk are found in. -/
def bestGroup (d : FVec F S128x8x1024 .f32) (a r : FVec F S8x1024 .f32) (n k : ℕ) : FVec F S8x1024 .f32 :=
  Nat.rec r (fun k acc => select (cmpf .olt (group d k) (best d a k)) (broadcast S8x1024 (Scalar.ofBits .f32 (word (n + k)))) acc) k

/-- The least distances and their groups after all groups of chunk `c`, from those before it. -/
def after (d : FVec F S128x8x1024 .f32) (c : ℕ) (s : FVec F S8x1024 .f32 × FVec F S8x1024 .f32) :
    FVec F S8x1024 .f32 × FVec F S8x1024 .f32 :=
  (best d s.1 128, bestGroup d s.1 s.2 (128 * c) 128)

/-- Before all chunks. -/
def before : FVec F S8x1024 .f32 × FVec F S8x1024 .f32 :=
  (broadcast S8x1024 (Scalar.ofBits .f32 0x7F800000#32), broadcast S8x1024 (Scalar.ofBits .f32 0x00000000#32))

/-- The projected inputs of a block. -/
def proj (x : Vec F S1x384x1024 .f32) (w : Vec F S64x384 .f32) (b : Vec F S64x1 .f32) : FVec F S64x1024 .f32 :=
  addf (matmul dot_S64x384_S384x1024_S64x1024_1_0_0_1_n_n none w (shapeCast S384x1024 x shapeCasts_S1x384x1024_S384x1024)
      (constant S64x1024 .f32 0x00000000#32))
    (broadcastTo S64x1024 (shapeCast S64x1 b shapeCasts_S64x1_S64x1) broadcasts_S64x1_S64x1024)

/-- The squared norms of the columns. -/
def norms (z : FVec F S64x1024 .f32) : FVec F S1024 .f32 :=
  multiReduction .add [0] S1024 (mulf z z) 0x00000000#32 reduces_S64x1024_S1024 (.inl rfl) rfl

/-- The codes times minus two. -/
def double (e : Vec F S1024x64 .f32) : FVec F S1024x64 .f32 :=
  shapeCast S1024x64 (mulf (broadcast S1024x64 (Scalar.ofBits .f32 0xC0000000#32)) e) shapeCasts_S1024x64_S1024x64

/-- The squared norms of the codes. -/
def codeNorms (e : Vec F S1024x64 .f32) : FVec F S1024x1 .f32 :=
  shapeCast S1024x1 (shapeCast S1024x1 (multiReduction .add [1] S1024 (mulf e e) 0x00000000#32 reduces_S1024x64_S1024 (.inl rfl) rfl)
    shapeCasts_S1024_S1024x1) shapeCasts_S1024x1_S1024x1

/-- The distances of a chunk of codes from the columns. -/
def chunk (z : FVec F S64x1024 .f32) (x : FVec F S1024 .f32) (e : Vec F S1024x64 .f32) (n : Vec F S1024x1 .f32) : FVec F S128x8x1024 .f32 :=
  shapeCast S128x8x1024
    (addf (addf (broadcastTo S1024x1024 (shapeCast S1x1024 x shapeCasts_S1024_S1x1024) broadcasts_S1x1024_S1024x1024)
        (matmul dot_S1024x64_S64x1024_S1024x1024_1_0_0_1_n_n none e z (constant S1024x1024 .f32 0x00000000#32)))
      (broadcastTo S1024x1024 n broadcasts_S1024x1_S1024x1024))
    shapeCasts_S1024x1024_S128x8x1024

/-- The nearest code of each column, from the least distances and their groups. -/
def nearest (s : FVec F S8x1024 .f32 × FVec F S8x1024 .f32) : IVec S1x1x1024 32 :=
  shapeCast S1x1x1024
    (fptosi 32 (multiReduction .minimumf [0] S1024
      (select (cmpf .oeq s.1 (broadcastTo S8x1024 (shapeCast S1x1024
            (multiReduction .minimumf [0] S1024 s.1 0x7F800000#32 reduces_S8x1024_S1024 (.inl rfl) rfl) shapeCasts_S1024_S1x1024)
          broadcasts_S1x1024_S8x1024))
        (addf (mulf s.2 (broadcast S8x1024 (Scalar.ofBits .f32 0x41000000#32))) (sitofp .f32 (iota .tc S8x1024 32 [0] iota_S8x1024_d0_w32)))
        (broadcast S8x1024 (Scalar.ofBits .f32 0x4B800000#32)))
      0x7F800000#32 reduces_S8x1024_S1024 (.inl rfl) rfl))
    shapeCasts_S1024_S1x1x1024

section Body

variable (i : grid0.Coords) (arg1 : Memref sig .tc .vmem S1x384x1024 .f32) (harg1 : arg1.IsWhole) (arg2 : Memref sig .tc .vmem S64x384 .f32) (harg2 : arg2.IsWhole)
  (arg3 : Memref sig .tc .vmem S64x1 .f32) (harg3 : arg3.IsWhole) (arg4 : Memref sig .tc .vmem S8192x64 .f32) (harg4 : arg4.IsWhole)
  (arg5 : Memref sig .tc .vmem S1x64x1024 .f32) (harg5 : arg5.IsWhole) (arg6 : Memref sig .tc .vmem S1x1x1024 .i32) (harg6 : arg6.IsWhole)
  (arg7 : Memref sig .tc .vmem S8192x128 .f32) (harg7 : arg7.IsWhole) (arg8 : Memref sig .tc .vmem S8192x64 .f32) (harg8 : arg8.IsWhole)
  (arg9 : Memref sig .tc .vmem S8192x1 .f32) (harg9 : arg9.IsWhole)

/-- A chunk of the doubled codes. -/
def loadCodes (o : ℕ) (h : ∀ a, (![o, 0] : Fin 2 → Nat) a + S1024x64.size a ≤ S8192x64.size a) :
    Prog (TpuEff nD τ sig (Elt F) Λ₀ .tc) (Vec F S1024x64 .f32) :=
  Prog.lift (.load arg8 (Rect.unit (s := S8192x64) ![o, 0] S1024x64.size h).toLoadRect (View.loadsAt_vmem h_S1024x64))

/-- A chunk of the codes' norms. -/
def loadNorms (o : ℕ) (h : ∀ a, (![o, 0] : Fin 2 → Nat) a + S1024x1.size a ≤ S8192x1.size a) :
    Prog (TpuEff nD τ sig (Elt F) Λ₀ .tc) (Vec F S1024x1 .f32) :=
  Prog.lift (.load arg9 (Rect.unit (s := S8192x1) ![o, 0] S1024x1.size h).toLoadRect (View.loadsAt_vmem h_S1024x1))

/-- One chunk of codes, doubled and negated, and their norms. -/
def initChunk (o : ℕ) (h : ∀ a, (![o, 0] : Fin 2 → Nat) a + S1024x64.size a ≤ S8192x64.size a)
    (h' : ∀ a, (![o, 0] : Fin 2 → Nat) a + S1024x1.size a ≤ S8192x1.size a) :
    Prog (TpuEff nD τ sig (Elt F) Λ₀ .tc) PUnit := do
  let e : Vec F S1024x64 .f32 ← Prog.lift (.load arg4 (Rect.unit (s := S8192x64) ![o, 0] S1024x64.size h).toLoadRect (View.loadsAt_vmem h_S1024x64))
  let _ : Vec F S1024x64 .f32 ← Prog.lift (.load arg8 (Rect.unit (s := S8192x64) ![o, 0] S1024x64.size h).toLoadRect (View.loadsAt_vmem h_S1024x64))
  Prog.lift (.store arg8 (Rect.unit (s := S8192x64) ![o, 0] S1024x64.size h) (double e) Finset.univ (View.stores_vmem_bits_univ h_S1024x64 rfl) (.inl rfl))
  let _ : Vec F S1024x1 .f32 ← Prog.lift (.load arg9 (Rect.unit (s := S8192x1) ![o, 0] S1024x1.size h').toLoadRect (View.loadsAt_vmem h_S1024x1))
  Prog.lift (.store arg9 (Rect.unit (s := S8192x1) ![o, 0] S1024x1.size h') (codeNorms e) Finset.univ (View.stores_vmem_bits_univ h_S1024x1 rfl) (.inl rfl))

/-- What the first point does first: the padded table, and the codes and norms that every point reads. -/
def start : Prog (TpuEff nD τ sig (Elt F) Λ₀ .tc) PUnit := do
  let e : Vec F S8192x64 .f32 ← Prog.lift (.load arg4 (Rect.unit (s := S8192x64) ![0, 0] S8192x64.size inb_S8192x64_S8192x64_0_0).toLoadRect (View.loadsAt_vmem h_S8192x64))
  let _ : Vec F S8192x64 .f32 ← Prog.lift (.load arg7 (Rect.unit (s := S8192x128) ![0, 0] S8192x64.size inb_S8192x128_S8192x64_0_0).toLoadRect (View.loadsAt_vmem h_S8192x64))
  Prog.lift (.store arg7 (Rect.unit (s := S8192x128) ![0, 0] S8192x64.size inb_S8192x128_S8192x64_0_0) e Finset.univ (View.stores_vmem_bits_univ h_S8192x64 rfl) (.inl rfl))
  let _ : Vec F S8192x64 .f32 ← Prog.lift (.load arg7 (Rect.unit (s := S8192x128) ![0, 64] S8192x64.size inb_S8192x128_S8192x64_0_64).toLoadRect (View.loadsAt_vmem h_S8192x64))
  Prog.lift (.store arg7 (Rect.unit (s := S8192x128) ![0, 64] S8192x64.size inb_S8192x128_S8192x64_0_64) (broadcast S8192x64 (Scalar.ofBits .f32 0x00000000#32)) Finset.univ (View.stores_vmem_bits_univ h_S8192x64 rfl) (.inl rfl))
  initChunk arg4 arg8 arg9 0 inb_S8192x64_S1024x64_0_0 inb_S8192x1_S1024x1_0_0
  initChunk arg4 arg8 arg9 1024 inb_S8192x64_S1024x64_1024_0 inb_S8192x1_S1024x1_1024_0
  initChunk arg4 arg8 arg9 2048 inb_S8192x64_S1024x64_2048_0 inb_S8192x1_S1024x1_2048_0
  initChunk arg4 arg8 arg9 3072 inb_S8192x64_S1024x64_3072_0 inb_S8192x1_S1024x1_3072_0
  initChunk arg4 arg8 arg9 4096 inb_S8192x64_S1024x64_4096_0 inb_S8192x1_S1024x1_4096_0
  initChunk arg4 arg8 arg9 5120 inb_S8192x64_S1024x64_5120_0 inb_S8192x1_S1024x1_5120_0
  initChunk arg4 arg8 arg9 6144 inb_S8192x64_S1024x64_6144_0 inb_S8192x1_S1024x1_6144_0
  initChunk arg4 arg8 arg9 7168 inb_S8192x64_S1024x64_7168_0 inb_S8192x1_S1024x1_7168_0

/-- What every point does: the projection, the distances chunk by chunk, the nearest codes. -/
def search : Prog (TpuEff nD τ sig (Elt F) Λ₀ .tc) PUnit := do
  let x : Vec F S1x384x1024 .f32 ← Prog.lift (.load arg1 (Rect.unit (s := S1x384x1024) ![0, 0, 0] S1x384x1024.size inb_S1x384x1024_S1x384x1024_0_0_0).toLoadRect (View.loadsAt_vmem h_S1x384x1024))
  let w : Vec F S64x384 .f32 ← Prog.lift (.load arg2 (Rect.unit (s := S64x384) ![0, 0] S64x384.size inb_S64x384_S64x384_0_0).toLoadRect (View.loadsAt_vmem h_S64x384))
  let b : Vec F S64x1 .f32 ← Prog.lift (.load arg3 (Rect.unit (s := S64x1) ![0, 0] S64x1.size inb_S64x1_S64x1_0_0).toLoadRect (View.loadsAt_vmem h_S64x1))
  let _ : Vec F S1x64x1024 .f32 ← Prog.lift (.load arg5 (Rect.unit (s := S1x64x1024) ![0, 0, 0] S1x64x1024.size inb_S1x64x1024_S1x64x1024_0_0_0).toLoadRect (View.loadsAt_vmem h_S1x64x1024))
  Prog.lift (.store arg5 (Rect.unit (s := S1x64x1024) ![0, 0, 0] S1x64x1024.size inb_S1x64x1024_S1x64x1024_0_0_0) (shapeCast S1x64x1024 (proj x w b) shapeCasts_S64x1024_S1x64x1024) Finset.univ (View.stores_vmem_bits_univ h_S1x64x1024 rfl) (.inl rfl))
  let e0 ← loadCodes arg8 0 inb_S8192x64_S1024x64_0_0
  let n0 ← loadNorms arg9 0 inb_S8192x1_S1024x1_0_0
  let e1 ← loadCodes arg8 1024 inb_S8192x64_S1024x64_1024_0
  let n1 ← loadNorms arg9 1024 inb_S8192x1_S1024x1_1024_0
  let e2 ← loadCodes arg8 2048 inb_S8192x64_S1024x64_2048_0
  let n2 ← loadNorms arg9 2048 inb_S8192x1_S1024x1_2048_0
  let e3 ← loadCodes arg8 3072 inb_S8192x64_S1024x64_3072_0
  let n3 ← loadNorms arg9 3072 inb_S8192x1_S1024x1_3072_0
  let e4 ← loadCodes arg8 4096 inb_S8192x64_S1024x64_4096_0
  let n4 ← loadNorms arg9 4096 inb_S8192x1_S1024x1_4096_0
  let e5 ← loadCodes arg8 5120 inb_S8192x64_S1024x64_5120_0
  let n5 ← loadNorms arg9 5120 inb_S8192x1_S1024x1_5120_0
  let e6 ← loadCodes arg8 6144 inb_S8192x64_S1024x64_6144_0
  let n6 ← loadNorms arg9 6144 inb_S8192x1_S1024x1_6144_0
  let e7 ← loadCodes arg8 7168 inb_S8192x64_S1024x64_7168_0
  let n7 ← loadNorms arg9 7168 inb_S8192x1_S1024x1_7168_0
  let z := proj x w b
  let s0 := before
  let s1 := after (chunk z (norms z) e0 n0) 0 s0
  let s2 := after (chunk z (norms z) e1 n1) 1 s1
  let s3 := after (chunk z (norms z) e2 n2) 2 s2
  let s4 := after (chunk z (norms z) e3 n3) 3 s3
  let s5 := after (chunk z (norms z) e4 n4) 4 s4
  let s6 := after (chunk z (norms z) e5 n5) 5 s5
  let s7 := after (chunk z (norms z) e6 n6) 6 s6
  let s8 := after (chunk z (norms z) e7 n7) 7 s7
  let _ : Vec F S1x1x1024 .i32 ← Prog.lift (.load arg6 (Rect.unit (s := S1x1x1024) ![0, 0, 0] S1x1x1024.size inb_S1x1x1024_S1x1x1024_0_0_0).toLoadRect (View.loadsAt_vmem h_S1x1x1024))
  Prog.lift (.store arg6 (Rect.unit (s := S1x1x1024) ![0, 0, 0] S1x1x1024.size inb_S1x1x1024_S1x1x1024_0_0_0) (nearest s8) Finset.univ (View.stores_vmem_bits_univ h_S1x1x1024 rfl) (.inl rfl))

/-- Up to the first chunk's distances: what `k0_part4` does after the first point's start. -/
def project : Prog (TpuEff nD τ sig (Elt F) Λ₀ .tc)
    (Σ' (_ : FVec F S64x1024 .f32) (_ : FVec F S1024 .f32) (_ : FVec F S128x8x1024 .f32) (_ : FVec F S8x1024 .f32) (_ : FVec F S8x1024 .f32), FVec F S8x1024 .f32) := do
  let x : Vec F S1x384x1024 .f32 ← Prog.lift (.load arg1 (Rect.unit (s := S1x384x1024) ![0, 0, 0] S1x384x1024.size inb_S1x384x1024_S1x384x1024_0_0_0).toLoadRect (View.loadsAt_vmem h_S1x384x1024))
  let w : Vec F S64x384 .f32 ← Prog.lift (.load arg2 (Rect.unit (s := S64x384) ![0, 0] S64x384.size inb_S64x384_S64x384_0_0).toLoadRect (View.loadsAt_vmem h_S64x384))
  let b : Vec F S64x1 .f32 ← Prog.lift (.load arg3 (Rect.unit (s := S64x1) ![0, 0] S64x1.size inb_S64x1_S64x1_0_0).toLoadRect (View.loadsAt_vmem h_S64x1))
  let _ : Vec F S1x64x1024 .f32 ← Prog.lift (.load arg5 (Rect.unit (s := S1x64x1024) ![0, 0, 0] S1x64x1024.size inb_S1x64x1024_S1x64x1024_0_0_0).toLoadRect (View.loadsAt_vmem h_S1x64x1024))
  Prog.lift (.store arg5 (Rect.unit (s := S1x64x1024) ![0, 0, 0] S1x64x1024.size inb_S1x64x1024_S1x64x1024_0_0_0) (shapeCast S1x64x1024 (proj x w b) shapeCasts_S64x1024_S1x64x1024) Finset.univ (View.stores_vmem_bits_univ h_S1x64x1024 rfl) (.inl rfl))
  let e ← loadCodes arg8 0 inb_S8192x64_S1024x64_0_0
  let n ← loadNorms arg9 0 inb_S8192x1_S1024x1_0_0
  let d := chunk (proj x w b) (norms (proj x w b)) e n
  pure ⟨proj x w b, norms (proj x w b), d, best d before.1 1, bestGroup d before.1 before.2 0 1, group d 1⟩

set_option maxRecDepth 65536 in
theorem part4_pos (h : k0_cond1 i = 1#1) : k0_part4 (F := F) i arg1 harg1 arg2 harg2 arg3 harg3 arg4 harg4 arg5 harg5 arg6 harg6 arg7 harg7 arg8 harg8 arg9 harg9 = (start arg4 arg7 arg8 arg9 >>= fun _ => project arg1 arg2 arg3 arg5 arg8 arg9) :=
  dif_pos h

set_option maxRecDepth 65536 in
theorem part4_neg (h : ¬ k0_cond1 i = 1#1) : k0_part4 (F := F) i arg1 harg1 arg2 harg2 arg3 harg3 arg4 harg4 arg5 harg5 arg6 harg6 arg7 harg7 arg8 harg8 arg9 harg9 = project arg1 arg2 arg3 arg5 arg8 arg9 :=
  dif_neg h

set_option maxRecDepth 65536 in
set_option maxHeartbeats 4000000 in
/-- The body at the first point. -/
theorem kernel_pos (h : k0_cond1 i = 1#1) :
    cc0__argmin_kernel (F := F) i arg1 harg1 arg2 harg2 arg3 harg3 arg4 harg4 arg5 harg5 arg6 harg6 arg7 harg7 arg8 harg8 arg9 harg9 = (start arg4 arg7 arg8 arg9 >>= fun _ => search arg1 arg2 arg3 arg5 arg6 arg8 arg9) := by
  unfold cc0__argmin_kernel k0_part126
  rw [part4_pos _ _ _ _ _ _ _ _ _ _ _ _ _ _ _ _ _ _ _ h]
  rfl

set_option maxRecDepth 65536 in
set_option maxHeartbeats 4000000 in
/-- The body at every other point. -/
theorem kernel_neg (h : ¬ k0_cond1 i = 1#1) :
    cc0__argmin_kernel (F := F) i arg1 harg1 arg2 harg2 arg3 harg3 arg4 harg4 arg5 harg5 arg6 harg6 arg7 harg7 arg8 harg8 arg9 harg9 = search arg1 arg2 arg3 arg5 arg6 arg8 arg9 := by
  unfold cc0__argmin_kernel k0_part126
  rw [part4_neg _ _ _ _ _ _ _ _ _ _ _ _ _ _ _ _ _ _ _ h]
  rfl

end Body

end Argmin

end
-- ==== Proof.ArgminRun.lean ====
/-
  One run of the first TensorCore call's body, at a symbolic point: at the first point it also writes the padded table and
  the two scratch arrays (the table times minus two, the codes' squared norms); at every point it writes the projected rows
  and the nearest codes.
-/
module

public import proofs.«01_k».proof.Proof.ArgminBody
public import proofs.«01_k».proof.Proof.Gen.ArgminIdeal.Frame
public import Idealize.ShloMosaic.Lib.Pipeline.FrameBody
public import Idealize.ShloMosaic.Lib.Pipeline.Value
public import Idealize.ShloMosaic.Lib.Pipeline.TableIdle
public import Idealize.ShloMosaic.Lib.Pipeline.ReadBack
public import Idealize.ShloMosaic.Lib.Ring
public import Idealize.ShloMosaic.Lib.Tactic
public import Idealize.ShloMosaic.Lib.Writes
public import Idealize.ShloMosaic.Lib.Pointwise

@[expose] public section

set_option maxRecDepth 16384

noncomputable section

namespace Argmin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ArgminIdeal Cert.ArgminIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- Rows `1024 * k` to `1024 * k + 1023` of the table. -/
def rowsOf {α : Type} (x : S8192x64.Idx → α) (k : Fin 8) : S1024x64.Idx → α := fun j =>
  x (ix2 ⟨1024 * k.val + (j 0).val, by have := (j 0).isLt; have : (j 0).val < 1024 := this; have := k.isLt; show _ < 8192; omega⟩ (j 1))

/-- The table with each row padded to 128 entries. -/
def padOf (x : Vec F S8192x64 .f32) : Vec F S8192x128 .f32 := fun y =>
  if h : (y 1).val < 64 then x (ix2 (y 0) ⟨(y 1).val, h⟩) else Scalar.ofBits .f32 0x00000000#32

/-- The table times minus two. -/
def e2Of (x : Vec F S8192x64 .f32) : Vec F S8192x64 .f32 := mulf (broadcast S8192x64 (Scalar.ofBits .f32 0xC0000000#32)) x

/-- The squared norms of the table's rows. -/
def enOf (x : Vec F S8192x64 .f32) : Vec F S8192x1 .f32 := fun y =>
  codeNorms (rowsOf x ⟨(y 0).val / 1024, by have : (y 0).val < 8192 := (y 0).isLt; omega⟩)
    (ix2 ⟨(y 0).val % 1024, Nat.mod_lt _ (by decide)⟩ (y 1))

/-- The nearest codes of a block, from the chunks of codes and their norms. -/
def codesFrom (x : Vec F S1x384x1024 .f32) (w : Vec F S64x384 .f32) (b : Vec F S64x1 .f32) (e0 e1 e2 e3 e4 e5 e6 e7 : Vec F S1024x64 .f32)
    (n0 n1 n2 n3 n4 n5 n6 n7 : Vec F S1024x1 .f32) : IVec S1x1x1024 32 :=
  let z := proj x w b
  let s1 := after (chunk z (norms z) e0 n0) 0 before
  let s2 := after (chunk z (norms z) e1 n1) 1 s1
  let s3 := after (chunk z (norms z) e2 n2) 2 s2
  let s4 := after (chunk z (norms z) e3 n3) 3 s3
  let s5 := after (chunk z (norms z) e4 n4) 4 s4
  let s6 := after (chunk z (norms z) e5 n5) 5 s5
  let s7 := after (chunk z (norms z) e6 n6) 6 s6
  let s8 := after (chunk z (norms z) e7 n7) 7 s7
  nearest s8

/-- The nearest codes of a block, from the codes and norms in scratch. -/
def codesOf (x : Vec F S1x384x1024 .f32) (w : Vec F S64x384 .f32) (b : Vec F S64x1 .f32) (e2 : Vec F S8192x64 .f32) (en : Vec F S8192x1 .f32) :
    IVec S1x1x1024 32 :=
  codesFrom x w b (View.ld e2 (Rect.unit (s := S8192x64) ![0, 0] S1024x64.size inb_S8192x64_S1024x64_0_0))
     (View.ld e2 (Rect.unit (s := S8192x64) ![1024, 0] S1024x64.size inb_S8192x64_S1024x64_1024_0))
     (View.ld e2 (Rect.unit (s := S8192x64) ![2048, 0] S1024x64.size inb_S8192x64_S1024x64_2048_0))
     (View.ld e2 (Rect.unit (s := S8192x64) ![3072, 0] S1024x64.size inb_S8192x64_S1024x64_3072_0))
     (View.ld e2 (Rect.unit (s := S8192x64) ![4096, 0] S1024x64.size inb_S8192x64_S1024x64_4096_0))
     (View.ld e2 (Rect.unit (s := S8192x64) ![5120, 0] S1024x64.size inb_S8192x64_S1024x64_5120_0))
     (View.ld e2 (Rect.unit (s := S8192x64) ![6144, 0] S1024x64.size inb_S8192x64_S1024x64_6144_0))
     (View.ld e2 (Rect.unit (s := S8192x64) ![7168, 0] S1024x64.size inb_S8192x64_S1024x64_7168_0))
    (View.ld en (Rect.unit (s := S8192x1) ![0, 0] S1024x1.size inb_S8192x1_S1024x1_0_0))
     (View.ld en (Rect.unit (s := S8192x1) ![1024, 0] S1024x1.size inb_S8192x1_S1024x1_1024_0))
     (View.ld en (Rect.unit (s := S8192x1) ![2048, 0] S1024x1.size inb_S8192x1_S1024x1_2048_0))
     (View.ld en (Rect.unit (s := S8192x1) ![3072, 0] S1024x1.size inb_S8192x1_S1024x1_3072_0))
     (View.ld en (Rect.unit (s := S8192x1) ![4096, 0] S1024x1.size inb_S8192x1_S1024x1_4096_0))
     (View.ld en (Rect.unit (s := S8192x1) ![5120, 0] S1024x1.size inb_S8192x1_S1024x1_5120_0))
     (View.ld en (Rect.unit (s := S8192x1) ![6144, 0] S1024x1.size inb_S8192x1_S1024x1_6144_0))
     (View.ld en (Rect.unit (s := S8192x1) ![7168, 0] S1024x1.size inb_S8192x1_S1024x1_7168_0))

theorem ld_rows {e : EltTy} (x : S8192x64.Idx → Elt F e) (k : Fin 8) (o : ℕ) (ho : o = 1024 * k.val)
    (h : ∀ a, (![o, 0] : Fin 2 → Nat) a + S1024x64.size a ≤ S8192x64.size a) :
    View.ld x (Rect.unit (s := S8192x64) ![o, 0] S1024x64.size h) = rowsOf x k := by
  subst ho
  refine funext fun j => congrArg x (funext fun a => Fin.ext ?_)
  fin_cases a
  · show 1024 * k.val + 1 * (j 0).val = 1024 * k.val + (j 0).val
    omega
  · show 0 + 1 * (j 1).val = (j 1).val
    omega

theorem double_rows (x : Vec F S8192x64 .f32) (k : Fin 8) (o : ℕ) (ho : o = 1024 * k.val)
    (h : ∀ a, (![o, 0] : Fin 2 → Nat) a + S1024x64.size a ≤ S8192x64.size a) (j : S1024x64.Idx) :
    double (View.ld x (Rect.unit (s := S8192x64) ![o, 0] S1024x64.size h)) j
      = e2Of x ((Rect.unit (s := S8192x64) ![o, 0] S1024x64.size h).emb j) := by
  unfold double
  rw [shapeCast_self]
  rfl

theorem norms_rows (x : Vec F S8192x64 .f32) (k : Fin 8) (o : ℕ) (ho : o = 1024 * k.val)
    (h : ∀ a, (![o, 0] : Fin 2 → Nat) a + S1024x64.size a ≤ S8192x64.size a)
    (h' : ∀ a, (![o, 0] : Fin 2 → Nat) a + S1024x1.size a ≤ S8192x1.size a) (j : S1024x1.Idx) :
    codeNorms (View.ld x (Rect.unit (s := S8192x64) ![o, 0] S1024x64.size h)) j
      = enOf x ((Rect.unit (s := S8192x1) ![o, 0] S1024x1.size h').emb j) := by
  rw [ld_rows x k o ho]
  subst ho
  have hj : (j 0).val < 1024 := (j 0).isLt
  have hk := k.isLt
  have e0 : (((Rect.unit (s := S8192x1) ![1024 * k.val, 0] S1024x1.size h').emb j) 0).val = 1024 * k.val + (j 0).val := by
    show 1024 * k.val + 1 * (j 0).val = _
    omega
  unfold enOf
  congr 1
  · congr 1
    exact Fin.ext (show k.val = _ / 1024 by rw [e0]; omega)
  · funext a
    fin_cases a
    · exact Fin.ext (show (j 0).val = _ % 1024 by rw [e0]; omega)
    · exact Subsingleton.elim (α := Fin 1) _ _

theorem pad_right (x : Vec F S8192x64 .f32) (j : S8192x64.Idx) :
    Scalar.ofBits (F := F) .f32 0x00000000#32 = padOf x ((Rect.unit (s := S8192x128) ![0, 64] S8192x64.size inb_S8192x128_S8192x64_0_64).emb j) := by
  unfold padOf
  rw [dif_neg]
  show ¬ (64 + 1 * (j 1).val < 64)
  omega

theorem pad_left (x : Vec F S8192x64 .f32) (j : S8192x64.Idx) :
    View.ld x (Rect.unit (s := S8192x64) ![0, 0] S8192x64.size inb_S8192x64_S8192x64_0_0) j
      = padOf x ((Rect.unit (s := S8192x128) ![0, 0] S8192x64.size inb_S8192x128_S8192x64_0_0).emb j) := by
  refine Eq.trans ?_ (dif_pos (show 0 + 1 * (j 1).val < 64 by have : (j 1).val < 64 := (j 1).isLt; omega)).symm
  refine congrArg x (funext fun a => Fin.ext ?_)
  fin_cases a <;> rfl

section Triples

variable (c : Dev nD) (arg1 : Memref sig .tc .vmem S1x384x1024 .f32) (harg1 : arg1.IsWhole) (arg2 : Memref sig .tc .vmem S64x384 .f32) (harg2 : arg2.IsWhole)
  (arg3 : Memref sig .tc .vmem S64x1 .f32) (harg3 : arg3.IsWhole) (arg4 : Memref sig .tc .vmem S8192x64 .f32) (harg4 : arg4.IsWhole)
  (arg5 : Memref sig .tc .vmem S1x64x1024 .f32) (harg5 : arg5.IsWhole) (arg6 : Memref sig .tc .vmem S1x1x1024 .i32) (harg6 : arg6.IsWhole)
  (arg7 : Memref sig .tc .vmem S8192x128 .f32) (harg7 : arg7.IsWhole) (arg8 : Memref sig .tc .vmem S8192x64 .f32) (harg8 : arg8.IsWhole)
  (arg9 : Memref sig .tc .vmem S8192x1 .f32) (harg9 : arg9.IsWhole)

include harg1 harg2 harg3 harg8 harg9 in
set_option maxHeartbeats 1000000 in
/-- The search leaves the projected inputs and the nearest codes. -/
theorem search_run (x0 : Vec F S1x384x1024 .f32) (x1 : Vec F S64x384 .f32) (x2 : Vec F S64x1 .f32) (x8 : Vec F S8192x64 .f32) (x9 : Vec F S8192x1 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ (∃ d, owns (c : Thread nD τ) arg5 fullShare d) ∗ (∃ d, owns (c : Thread nD τ) arg6 fullShare d) ∗ owns (c : Thread nD τ) arg8 fullShare x8 ∗ owns (c : Thread nD τ) arg9 fullShare x9
          ∗ (iprop(owns (c : Thread nD τ) arg1 fullShare x0 ∗ owns (c : Thread nD τ) arg2 fullShare x1 ∗ owns (c : Thread nD τ) arg3 fullShare x2
            ∗ owns (c : Thread nD τ) arg5 fullShare (shapeCast S1x64x1024 (proj x0 x1 x2) shapeCasts_S64x1024_S1x64x1024)
            ∗ owns (c : Thread nD τ) arg6 fullShare (codesOf x0 x1 x2 x8 x9)
            ∗ owns (c : Thread nD τ) arg8 fullShare x8 ∗ owns (c : Thread nD τ) arg9 fullShare x9) -∗ K ⟨⟩))
        ⊢ wp frame (wpE (defs₀ (F := F)) Variants.none c none) E (search arg1 arg2 arg3 arg5 arg6 arg8 arg9) K := by
  intro E K
  unfold search loadCodes loadNorms owns
  iintro ⟨⟨%f0, %hf0, H0⟩, ⟨%f1, %hf1, H1⟩, ⟨%f2, %hf2, H2⟩, ⟨%d4, %f4, -, H4⟩, ⟨%d5, %f5, -, H5⟩, ⟨%f8, %hf8, H8⟩, ⟨%f9, %hf9, H9⟩, Hk⟩
  obtain rfl := harg1.eq_unread hf0; obtain rfl := harg2.eq_unread hf1; obtain rfl := harg3.eq_unread hf2; obtain rfl := harg8.eq_unread hf8; obtain rfl := harg9.eq_unread hf9
  have e0 : View.readAt (Elt F) arg1.view (Rect.unit (s := S1x384x1024) ![0, 0, 0] S1x384x1024.size inb_S1x384x1024_S1x384x1024_0_0_0).toLoadRect (harg1.unread x0) = x0 := by
    rw [View.readAt_eq_ld, harg1.read_unread]; exact View.ld_unit_zero (S := S1x384x1024) hz3 _ _
  have e1 : View.readAt (Elt F) arg2.view (Rect.unit (s := S64x384) ![0, 0] S64x384.size inb_S64x384_S64x384_0_0).toLoadRect (harg2.unread x1) = x1 := by
    rw [View.readAt_eq_ld, harg2.read_unread]; exact View.ld_unit_zero (S := S64x384) hz2 _ _
  have e2 : View.readAt (Elt F) arg3.view (Rect.unit (s := S64x1) ![0, 0] S64x1.size inb_S64x1_S64x1_0_0).toLoadRect (harg3.unread x2) = x2 := by
    rw [View.readAt_eq_ld, harg3.read_unread]; exact View.ld_unit_zero (S := S64x1) hz2 _ _
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H4]
  · iexists _; isplitr; swap; · iexact H4
    ipureintro
    rw [View.read_writes_eq_canon _ _ _ (View.cover_of_tiledL _ S1x64x1024.size (by sl_kernel_rfl)), View.canon_unit_zero hz3]
  isplitl [H5]
  · iexists _; isplitr; swap; · iexact H5
    ipureintro
    rw [View.read_writes_eq_canon _ _ _ (View.cover_of_tiledL _ S1x1x1024.size (by sl_kernel_rfl)), View.canon_unit_zero hz3]
    show codesFrom _ _ _ _ _ _ _ _ _ _ _ _ _ _ _ _ _ _ _ = _
    simp only [View.readAt_eq_ld, harg8.read_unread, harg9.read_unread]
    rfl
  isplitl [H8]
  · iexists _; isplitr; · ipureintro; exact harg8.read_unread _
    iexact H8
  iexists _; isplitr; · ipureintro; exact harg9.read_unread _
  iexact H9

include harg4 in
set_option maxHeartbeats 1000000 in
/-- The start leaves the padded table, and in scratch the doubled codes and their norms. -/
theorem start_run (x3 : Vec F S8192x64 .f32) :
    ∀ (E : Set ℕ) (K : PUnit → sProp 𝕄),
      iprop(owns (c : Thread nD τ) arg4 fullShare x3 ∗ (∃ d, owns (c : Thread nD τ) arg7 fullShare d) ∗ (∃ d, owns (c : Thread nD τ) arg8 fullShare d) ∗ (∃ d, owns (c : Thread nD τ) arg9 fullShare d)
          ∗ (iprop(owns (c : Thread nD τ) arg4 fullShare x3 ∗ owns (c : Thread nD τ) arg7 fullShare (padOf x3)
            ∗ owns (c : Thread nD τ) arg8 fullShare (e2Of x3) ∗ owns (c : Thread nD τ) arg9 fullShare (enOf x3)) -∗ K ⟨⟩))
        ⊢ wp frame (wpE (defs₀ (F := F)) Variants.none c none) E (start arg4 arg7 arg8 arg9) K := by
  intro E K
  unfold start initChunk owns
  simp only [bind_assoc]
  iintro ⟨⟨%f3, %hf3, H3⟩, ⟨%d7, %f7, -, H7⟩, ⟨%d8, %f8, -, H8⟩, ⟨%d9, %f9, -, H9⟩, Hk⟩
  obtain rfl := harg4.eq_unread hf3
  sl_exec
  sl_step
  iapply Hk
  isplitl [H3]
  · iexists _; isplitr; · ipureintro; exact harg4.read_unread _
    iexact H3
  isplitl [H7]
  · iexists _; isplitr; swap; · iexact H7
    ipureintro
    simp only [View.readAt_eq_ld, harg4.read_unread]
    refine funext fun y => View.read_writes_apply_of_pieces _ _ (padOf x3) _ (View.PiecesOf.mem ?_) y
      (View.cover_of_tiledL (s := S8192x128) _ S8192x64.size ?_ y)
    · refine ⟨fun j => ?_, fun j => ?_, trivial⟩
      · exact pad_right x3 j
      · exact pad_left x3 j
    · sl_kernel_rfl
  isplitl [H8]
  · iexists _; isplitr; swap; · iexact H8
    ipureintro
    simp only [View.readAt_eq_ld, harg4.read_unread]
    refine funext fun y => View.read_writes_apply_of_pieces _ _ (e2Of x3) _ (View.PiecesOf.mem ?_) y
      (View.cover_of_tiledL (s := S8192x64) _ S1024x64.size ?_ y)
    · exact ⟨double_rows x3 7 _ rfl inb_S8192x64_S1024x64_7168_0, double_rows x3 6 _ rfl inb_S8192x64_S1024x64_6144_0, double_rows x3 5 _ rfl inb_S8192x64_S1024x64_5120_0, double_rows x3 4 _ rfl inb_S8192x64_S1024x64_4096_0,
        double_rows x3 3 _ rfl inb_S8192x64_S1024x64_3072_0, double_rows x3 2 _ rfl inb_S8192x64_S1024x64_2048_0, double_rows x3 1 _ rfl inb_S8192x64_S1024x64_1024_0, double_rows x3 0 _ rfl inb_S8192x64_S1024x64_0_0, trivial⟩
    · sl_kernel_rfl
  iexists _; isplitr; swap; · iexact H9
  ipureintro
  simp only [View.readAt_eq_ld, harg4.read_unread]
  refine funext fun y => View.read_writes_apply_of_pieces _ _ (enOf x3) _ (View.PiecesOf.mem ?_) y
    (View.cover_of_tiledL (s := S8192x1) _ S1024x1.size ?_ y)
  · exact ⟨norms_rows x3 7 _ rfl inb_S8192x64_S1024x64_7168_0 inb_S8192x1_S1024x1_7168_0, norms_rows x3 6 _ rfl inb_S8192x64_S1024x64_6144_0 inb_S8192x1_S1024x1_6144_0, norms_rows x3 5 _ rfl inb_S8192x64_S1024x64_5120_0 inb_S8192x1_S1024x1_5120_0, norms_rows x3 4 _ rfl inb_S8192x64_S1024x64_4096_0 inb_S8192x1_S1024x1_4096_0,
      norms_rows x3 3 _ rfl inb_S8192x64_S1024x64_3072_0 inb_S8192x1_S1024x1_3072_0, norms_rows x3 2 _ rfl inb_S8192x64_S1024x64_2048_0 inb_S8192x1_S1024x1_2048_0, norms_rows x3 1 _ rfl inb_S8192x64_S1024x64_1024_0 inb_S8192x1_S1024x1_1024_0, norms_rows x3 0 _ rfl inb_S8192x64_S1024x64_0_0 inb_S8192x1_S1024x1_0_0, trivial⟩
  · sl_kernel_rfl

end Triples

end Argmin

end
-- ==== Proof.ArgminPoints.lean ====
/-
  The first TensorCore call's 32 points: the scratch arrays keep the first point's contents, every point writes its own
  blocks, and the padded table is written back after the last. Ends with the frame.
-/
module

public import proofs.«01_k».proof.Proof.ArgminRun
public import Idealize.ShloMosaic.Lib.Claim

@[expose] public section

set_option maxRecDepth 16384

noncomputable section

namespace Argmin

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ArgminIdeal Cert.ArgminIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The table. -/
abbrev table (c : Dev nD) : Vec F S8192x64 .f32 := m ((c : Thread nD τ).loc main_arg3)

theorem index3 : ∀ t : Fin cfg0.N, win0_3.index t = ![0, 0] :=
  (by decide +kernel : ∀ t : Fin grid0.N, win0_3.index t = ![0, 0])

/-- Every point reads the whole table. -/
theorem iblk3_eq (c : Dev nD) (t : Fin cfg0.N) : (iblk m c 3 t : Vec F S8192x64 .f32) = table m c := by
  funext j
  unfold iblk
  rw [View.read_apply]
  show V m c main_arg3 _ = _
  rw [V_main_arg3]
  show m _ _ = m _ _
  congr 1
  funext k
  apply Fin.ext
  match k with
  | ⟨0, _⟩ => show win0_3.index t 0 * 8192 + 1 * (j 0).val = (j 0).val; rw [index3]; simp
  | ⟨1, _⟩ => show win0_3.index t 1 * 64 + 1 * (j 1).val = (j 1).val; rw [index3]; simp

/-- The staging buffers at a point, and the scratch buffers. -/
abbrev ms0_0 (t : Fin cfg0.N) : Memref sig .tc .vmem S1x384x1024 .f32 := win0_0.stage (cfg0.slots t 0)
abbrev ms0_1 (t : Fin cfg0.N) : Memref sig .tc .vmem S64x384 .f32 := win0_1.stage (cfg0.slots t 1)
abbrev ms0_2 (t : Fin cfg0.N) : Memref sig .tc .vmem S64x1 .f32 := win0_2.stage (cfg0.slots t 2)
abbrev ms0_3 (t : Fin cfg0.N) : Memref sig .tc .vmem S8192x64 .f32 := win0_3.stage (cfg0.slots t 3)
abbrev ms0_4 (t : Fin cfg0.N) : Memref sig .tc .vmem S1x64x1024 .f32 := win0_4.stage (cfg0.slots t 4)
abbrev ms0_5 (t : Fin cfg0.N) : Memref sig .tc .vmem S1x1x1024 .i32 := win0_5.stage (cfg0.slots t 5)
abbrev ms0_6 (t : Fin cfg0.N) : Memref sig .tc .vmem S8192x128 .f32 := win0_6.stage (cfg0.slots t 6)
abbrev scM0_0 : Memref sig .tc .vmem S8192x64 .f32 := Memref.whole cc0_scratch0
abbrev scM0_1 : Memref sig .tc .vmem S8192x1 .f32 := Memref.whole cc0_scratch1

/-- Before the first point the scratch buffers hold anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- After it they hold the doubled codes and their norms. -/
def carried (c : Dev nD) : sProp 𝕄 :=
  iprop(iprop(owns (c : Thread nD τ) scM0_0 fullShare (e2Of (table m c)) ∗ owns (c : Thread nD τ) scM0_1 fullShare (enOf (table m c))) ∗ (∃ r, prngReg c r))

theorem carried_forget (c : Dev nD) : carried m c ⊢ (Pipeline.ΦA spec0 c : sProp 𝕄) := by
  rw [PhiA0_eq]
  unfold carried
  iintro ⟨⟨H0, H1⟩, Hr⟩
  isplitl [H0 H1]
  · isplitl [H0]
    · iexists _; iexact H0
    iexists _; iexact H1
  iexact Hr

/-- The projected inputs of point `t`'s block. -/
def zeAt (c : Dev nD) (t : Fin cfg0.N) : Vec F S1x64x1024 .f32 :=
  shapeCast S1x64x1024 (proj (iblk m c 0 t) (iblk m c 1 t) (iblk m c 2 t)) shapeCasts_S64x1024_S1x64x1024

/-- The nearest codes of point `t`'s block. -/
def codesAt (c : Dev nD) (t : Fin cfg0.N) : Vec F S1x1x1024 .i32 :=
  codesOf (iblk m c 0 t) (iblk m c 1 t) (iblk m c 2 t) (e2Of (table m c)) (enOf (table m c))

/-- What the buffers hold, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => zeAt m c t
    | ⟨5, _⟩ => codesAt m c t
    | ⟨6, _⟩ => padOf (table m c)
  Φ t := if t.val = 0 then Pipeline.ΦA spec0 c else carried m c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = zeAt m c t := by dsimp only [dats]
theorem after0_5 (c : Dev nD) (t : Fin cfg0.N) : (dats m 0 c).after 5 t = codesAt m c t := by dsimp only [dats]
theorem after0_6 (c : Dev nD) (t : Fin cfg0.N) : (dats m 0 c).after 6 t = padOf (table m c) := by dsimp only [dats]

theorem Phi_zero (c : Dev nD) (t : Fin (cfg0.N + 1)) (h : t.val = 0) : (dats m 0 c).Φ t = Pipeline.ΦA spec0 c := by
  dsimp only [dats]; rw [if_pos h]
theorem Phi_pos (c : Dev nD) (t : Fin (cfg0.N + 1)) (h : t.val ≠ 0) : (dats m 0 c).Φ t = carried m c := by
  dsimp only [dats]; rw [if_neg h]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The condition holds at the first point only. -/
theorem cond_iff : ∀ t : Fin cfg0.N, k0_cond1 (grid0.coords t) = 1#1 ↔ t.val = 0 :=
  (by decide +kernel : ∀ t : Fin grid0.N, k0_cond1 (grid0.coords t) = 1#1 ↔ t.val = 0)

theorem idle6_false (t : Fin cfg0.N) (h : t.val = 0) : cfg0.idle 6 (cfg0.grid.coords t) = false := by
  show (!(k0_cond1 (grid0.coords t) == 1#1)) = false
  rw [(cond_iff t).mpr h]; rfl

theorem idle6_true (t : Fin cfg0.N) (h : t.val ≠ 0) : cfg0.idle 6 (cfg0.grid.coords t) = true := by
  show (!(k0_cond1 (grid0.coords t) == 1#1)) = true
  rw [beq_eq_false_iff_ne.mpr fun e => h ((cond_iff t).mp e)]; rfl

theorem flush6_false (t : Fin cfg0.N) (h : t.val < 31) : (cfg0.win 6).flush t = false :=
  Bool.eq_false_iff.mpr fun e => by have := (flush0_6 t).mp e; omega

/-- After the first point the padded table stays in its buffer. -/
theorem before6 (c : Dev nD) (t : Fin cfg0.N) (h : t.val ≠ 0) (d) : (dats m 0 c).before 6 t d = padOf (table m c) := by
  have hN : t.val < 32 := lt_of_lt_of_eq t.isLt N_0
  have hfetch : ∀ t, (cfg0.win 6).fetch t = false := (cfg0.win 6).fetch_out rfl
  rw [(dats m 0 c).before_idle_run 6 hfetch d (t.val - 1) t (by omega) fun j h1 h2 =>
    ⟨idle6_true j (by omega), flush6_false j (by omega)⟩]
  rw [(dats m 0 c).before_of_pos 6 _ (by dsimp only; omega) (hfetch _)]
  rw [flush6_false _ (by dsimp only; omega), if_neg Bool.false_ne_true]
  unfold Dat.left
  rw [idle6_false _ (by dsimp only; omega)]
  dsimp only
  unfold Dat.kept
  rw [Pipeline.fill_of_clip_none 6 _ (fun _ => rfl) d (padOf (table m c))]
  exact (cfg0.win 6).fill_cut _ _

/-- What the body starts from at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it ends with. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]

/-- At a later point the padded table's buffer is not touched. -/
theorem leaves6 (c : Dev nD) (t : Fin cfg0.N) (h : t.val ≠ 0) :
    owns (c : Thread nD τ) (ms0_6 t) fullShare (padOf (table m c)) ⊢ ((dats m 0 c).leavesExact 6 t : sProp 𝕄) := by
  have hN : t.val < 32 := lt_of_lt_of_eq t.isLt N_0
  by_cases hf : t.val < 31
  · rw [(dats m 0 c).leavesExact_idle 6 t (idle6_true t h) (flush6_false t hf)]
    iintro H
    iexists (padOf (table m c))
    rw [before6 m c t h]
    iexact H
  · rw [show (dats m 0 c).leavesExact 6 t = owns (c : Thread nD τ) (ms0_6 t) fullShare ((dats m 0 c).after 6 t) from by
      unfold Dat.leavesExact; rw [idle6_true t h, show (cfg0.win 6).flush t = true from (flush0_6 t).mpr (by omega)], after0_6]

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl, Phi_pos m c t.succ (Nat.succ_ne_zero _)]
  rw [leaves_live m c 0 t rfl, leaves_live m c 1 t rfl, leaves_live m c 2 t rfl, leaves_live m c 3 t rfl, leaves_live m c 4 t rfl,
    leaves_live m c 5 t rfl, after0_0, after0_1, after0_2, after0_3, after0_4, after0_5, iblk3_eq]
  by_cases h0 : t.val = 0
  · rw [kernel_pos _ _ _ _ _ _ _ _ _ _ _ _ _ _ _ _ _ _ _ ((cond_iff t).mpr h0), wp_bind, Phi_zero m c t.castSucc h0, PhiA0_eq,
      leaves_live m c 6 t (idle6_false t h0), after0_6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (start_run c _ (hstage0_3 ((cfg0.slots t 3).cast nbuf0_3)) _ _ _ (table m c) Set.univ _)
    isplitl [H3]; · iexact H3
    isplitl [H6]; · iexists _; iexact H6
    isplitl [HS0]; · iexact HS0
    isplitl [HS1]; · iexact HS1
    iintro ⟨H3, H6, HS0, HS1⟩
    iapply (search_run c _ (hstage0_0 ((cfg0.slots t 0).cast nbuf0_0)) _ (hstage0_1 ((cfg0.slots t 1).cast nbuf0_1)) _ (hstage0_2 ((cfg0.slots t 2).cast nbuf0_2)) _ _ _ (Memref.isWhole_whole _) _ (Memref.isWhole_whole _)
      (iblk m c 0 t) (iblk m c 1 t) (iblk m c 2 t) (e2Of (table m c)) (enOf (table m c)) Set.univ _)
    isplitl [H0]; · iexact H0
    isplitl [H1]; · iexact H1
    isplitl [H2]; · iexact H2
    isplitl [H4]; · iexists _; iexact H4
    isplitl [H5]; · iexists _; iexact H5
    isplitl [HS0]; · iexact HS0
    isplitl [HS1]; · iexact HS1
    iintro ⟨H0, H1, H2, H4, H5, HS0, HS1⟩
    isplitl [HS0 HS1 Hg]
    · unfold carried
      isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [kernel_neg _ _ _ _ _ _ _ _ _ _ _ _ _ _ _ _ _ _ _ (fun h => h0 ((cond_iff t).mp h)), Phi_pos m c t.castSucc h0]
    simp only [before6 m c t h0]
    unfold carried
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
    iapply (search_run c _ (hstage0_0 ((cfg0.slots t 0).cast nbuf0_0)) _ (hstage0_1 ((cfg0.slots t 1).cast nbuf0_1)) _ (hstage0_2 ((cfg0.slots t 2).cast nbuf0_2)) _ _ _ (Memref.isWhole_whole _) _ (Memref.isWhole_whole _)
      (iblk m c 0 t) (iblk m c 1 t) (iblk m c 2 t) (e2Of (table m c)) (enOf (table m c)) Set.univ _)
    isplitl [H0]; · iexact H0
    isplitl [H1]; · iexact H1
    isplitl [H2]; · iexact H2
    isplitl [H4]; · iexists _; iexact H4
    isplitl [H5]; · iexists _; iexact H5
    isplitl [HS0]; · iexact HS0
    isplitl [HS1]; · iexact HS1
    iintro ⟨H0, H1, H2, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves6 m c t h0)
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends with the arrays as `dats` says and no semaphore count. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => by rw [Phi_zero m c 0 rfl])
    (hout := fun c => by rw [Phi_pos m c _ (by decide)]; exact carried_forget m c)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Argmin

end
-- ==== Proof.ArgminRefRun.lean ====
/-
  The run of the first call's reference, with its three results as functions of the arguments.
-/
module

public import proofs.«01_k».proof.Proof.Gen.ArgminRefIdeal
public import Idealize.ShloMosaic.Lib.StableHlo.Run

@[expose] public section

noncomputable section

namespace ArgminReference

open Cert.ArgminRefIdeal Cert.ArgminRefIdeal.Gen Idealize.ShloMosaic Idealize.ShloMosaic.TcCoe Idealize.SL.Sem Idealize.ShloMosaic.StableHlo

variable {F : FTy → Type} [FloatOps F]

/-- The projected inputs. -/
def ze (x : FVec F S32x384x32x32 .f32) (w : FVec F S64x384 .f32) (b : FVec F S64 .f32) : FVec F S32x64x32x32 .f32 :=
  addf (transpose S32x64x32x32 [1, 0, 2, 3] (Host.dotGeneral dot_S64x384_S32x384x32x32_S64x32x32x32_1_1_0_023_n_n none w x) transposes_S64x32x32x32_S32x64x32x32_1_0_2_3)
    (broadcastInDim S32x64x32x32 ![0, 1, 2, 3] bcast_S1x64x1x1_S32x64x32x32_0_1_2_3 (broadcastInDim S1x64x1x1 ![1] bcast_S64_S1x64x1x1_1 b))

/-- One row per position. -/
def flat (z : FVec F S32x64x32x32 .f32) : FVec F S32768x64 .f32 :=
  shapeCast _ (transpose S32x32x32x64 [0, 2, 3, 1] z transposes_S32x64x32x32_S32x32x32x64_0_2_3_1) shapeCasts_S32x32x32x64_S32768x64

/-- The distances of the rows from the codes, negated. -/
def minusDist (f : FVec F S32768x64 .f32) (e : FVec F S8192x64 .f32) : FVec F S32768x8192 .f32 :=
  Host.negf (addf (subf (broadcastInDim S32768x8192 ![0, 1] bcast_S32768x1_S32768x8192_0_1 (broadcastInDim S32768x1 ![0] bcast_S32768_S32768x1_0
          (Host.reduceAdd (mulf f f) (constant S_ .f32 0x00000000#32) reducesTo_S32768x64_S32768_d1 h_S_)))
        (Host.dotGeneral dot_S32768x64_S64x8192_S32768x8192_1_0_0_1_n_n none
          (mulf (broadcastInDim S32768x64 ![] bcast_S_S32768x64 (constant S_ .f32 0x40000000#32)) f) (transpose S64x8192 [1, 0] e transposes_S8192x64_S64x8192_1_0)))
      (broadcastInDim S32768x8192 ![0, 1] bcast_S1x8192_S32768x8192_0_1 (broadcastInDim S1x8192 ![1] bcast_S8192_S1x8192_1
        (Host.reduceAdd (mulf e e) (constant S_ .f32 0x00000000#32) reducesTo_S8192x64_S8192_d1 h_S_))))

/-- Searches of the greatest entries of each row. -/
abbrev Search1 (F : FTy → Type) := FVec F S32768x8192 .f32 → IVec S32768x8192 32 → FVec F S_ .f32 → IVec S_ 32 → FVec F S32768 .f32
abbrev Search2 (F : FTy → Type) := FVec F S32768x8192 .f32 → IVec S32768x8192 32 → FVec F S_ .f32 → IVec S_ 32 → IVec S32768 32

section Searches

variable {s t u : Shape} {axes : List (Fin s.rank)} (f : F .f32 × BitVec 32 → F .f32 × BitVec 32 → F .f32 × BitVec 32) (h : s.ReducesTo axes t) (hu : 0 < u.numel)

/-- The entry that `f` picks, -/
def searchOf (x : FVec F s .f32) (y : IVec s 32) (v : FVec F u .f32) (w : IVec u 32) : FVec F t .f32 := fun j => (Host.argReduce f x y v w h hu j).1
/-- and where it is found. -/
def searchAt (x : FVec F s .f32) (y : IVec s 32) (v : FVec F u .f32) (w : IVec u 32) : IVec t 32 := fun j => (Host.argReduce f x y v w h hu j).2

theorem searchOf_def : (fun x y v w j => (Host.argReduce f x y v w h hu j).1) = searchOf (F := F) f h hu := rfl
theorem searchAt_def : (fun x y v w j => (Host.argReduce f x y v w h hu j).2) = searchAt (F := F) f h hu := rfl

end Searches

/-- The greatest entry of each row, -/
abbrev greatest : Search1 F := searchOf reducer_argmax_f32_i32 reducesTo_S32768x8192_S32768_d1 h_S_
/-- and where it is first found. -/
abbrev greatestAt : Search2 F := searchAt reducer_argmax_f32_i32 reducesTo_S32768x8192_S32768_d1 h_S_

/-- The first greatest entry of each row. -/
def argmax (d : FVec F S32768x8192 .f32) : IVec S32768 32 :=
  greatestAt d (iotaInDim S32768x8192 32 1) (constant S_ .f32 0xFF800000#32) (constantI S_ 32 0#32)

theorem argmax_def (d : FVec F S32768x8192 .f32) :
    argmax d = searchAt reducer_argmax_f32_i32 reducesTo_S32768x8192_S32768_d1 h_S_ d (iotaInDim S32768x8192 32 1) (constant S_ .f32 0xFF800000#32) (constantI S_ 32 0#32) := rfl

/-- The table with each row padded to 128 entries. -/
def padded (e : FVec F S8192x64 .f32) : FVec F S8192x128 .f32 :=
  pad S8192x128 ![0, 0] ![0, 64] ![0, 0] e (sitofp .f32 (constantI S_ 32 0#32)) pads_S8192x64_S8192x128_000_0640 h_S_

/-- The operations, in order. -/
abbrev opsWith (g : Search1 F) (g' : Search2 F) : List (HloOp τ sig (Elt F)) :=
  [ binary main_arg1 main_arg0 main_v0 ((fun l r => Host.dotGeneral dot_S64x384_S32x384x32x32_S64x32x32x32_1_1_0_023_n_n none l r) : (⟨S64x384, .f32⟩ : BufTy).Contents (Elt F) → (⟨S32x384x32x32, .f32⟩ : BufTy).Contents (Elt F) → (⟨S64x32x32x32, .f32⟩ : BufTy).Contents (Elt F)),
    unary main_v0 main_v1 ((transpose S32x64x32x32 [1, 0, 2, 3] · transposes_S64x32x32x32_S32x64x32x32_1_0_2_3) : (⟨S64x32x32x32, .f32⟩ : BufTy).Contents (Elt F) → (⟨S32x64x32x32, .f32⟩ : BufTy).Contents (Elt F)),
    unary main_arg2 main_v2 (broadcastInDim S1x64x1x1 ![1] bcast_S64_S1x64x1x1_1 : (⟨S64, .f32⟩ : BufTy).Contents (Elt F) → (⟨S1x64x1x1, .f32⟩ : BufTy).Contents (Elt F)),
    unary main_v2 main_v3 (broadcastInDim S32x64x32x32 ![0, 1, 2, 3] bcast_S1x64x1x1_S32x64x32x32_0_1_2_3 : (⟨S1x64x1x1, .f32⟩ : BufTy).Contents (Elt F) → (⟨S32x64x32x32, .f32⟩ : BufTy).Contents (Elt F)),
    binary main_v1 main_v3 main_v4 (addf : (⟨S32x64x32x32, .f32⟩ : BufTy).Contents (Elt F) → (⟨S32x64x32x32, .f32⟩ : BufTy).Contents (Elt F) → (⟨S32x64x32x32, .f32⟩ : BufTy).Contents (Elt F)),
    unary main_v4 main_v5 ((transpose S32x32x32x64 [0, 2, 3, 1] · transposes_S32x64x32x32_S32x32x32x64_0_2_3_1) : (⟨S32x64x32x32, .f32⟩ : BufTy).Contents (Elt F) → (⟨S32x32x32x64, .f32⟩ : BufTy).Contents (Elt F)),
    reshape main_v5 main_v6 (rfl : (.f32 : EltTy) = .f32) shapeCasts_S32x32x32x64_S32768x64,
    binary main_v6 main_v6 main_v7 (mulf : (⟨S32768x64, .f32⟩ : BufTy).Contents (Elt F) → (⟨S32768x64, .f32⟩ : BufTy).Contents (Elt F) → (⟨S32768x64, .f32⟩ : BufTy).Contents (Elt F)),
    nullary main_cst (constant S_ .f32 0x00000000#32),
    binary main_v7 main_cst main_v8 ((fun x v => Host.reduceAdd x v reducesTo_S32768x64_S32768_d1 h_S_) : (⟨S32768x64, .f32⟩ : BufTy).Contents (Elt F) → (⟨S_, .f32⟩ : BufTy).Contents (Elt F) → (⟨S32768, .f32⟩ : BufTy).Contents (Elt F)),
    unary main_v8 main_v9 (broadcastInDim S32768x1 ![0] bcast_S32768_S32768x1_0 : (⟨S32768, .f32⟩ : BufTy).Contents (Elt F) → (⟨S32768x1, .f32⟩ : BufTy).Contents (Elt F)),
    nullary main_cst_0 (constant S_ .f32 0x40000000#32),
    unary main_cst_0 main_v10 (broadcastInDim S32768x64 ![] bcast_S_S32768x64 : (⟨S_, .f32⟩ : BufTy).Contents (Elt F) → (⟨S32768x64, .f32⟩ : BufTy).Contents (Elt F)),
    binary main_v10 main_v6 main_v11 (mulf : (⟨S32768x64, .f32⟩ : BufTy).Contents (Elt F) → (⟨S32768x64, .f32⟩ : BufTy).Contents (Elt F) → (⟨S32768x64, .f32⟩ : BufTy).Contents (Elt F)),
    unary main_arg3 main_v12 ((transpose S64x8192 [1, 0] · transposes_S8192x64_S64x8192_1_0) : (⟨S8192x64, .f32⟩ : BufTy).Contents (Elt F) → (⟨S64x8192, .f32⟩ : BufTy).Contents (Elt F)),
    binary main_v11 main_v12 main_v13 ((fun l r => Host.dotGeneral dot_S32768x64_S64x8192_S32768x8192_1_0_0_1_n_n none l r) : (⟨S32768x64, .f32⟩ : BufTy).Contents (Elt F) → (⟨S64x8192, .f32⟩ : BufTy).Contents (Elt F) → (⟨S32768x8192, .f32⟩ : BufTy).Contents (Elt F)),
    unary main_v9 main_v14 (broadcastInDim S32768x8192 ![0, 1] bcast_S32768x1_S32768x8192_0_1 : (⟨S32768x1, .f32⟩ : BufTy).Contents (Elt F) → (⟨S32768x8192, .f32⟩ : BufTy).Contents (Elt F)),
    binary main_v14 main_v13 main_v15 (subf : (⟨S32768x8192, .f32⟩ : BufTy).Contents (Elt F) → (⟨S32768x8192, .f32⟩ : BufTy).Contents (Elt F) → (⟨S32768x8192, .f32⟩ : BufTy).Contents (Elt F)),
    binary main_arg3 main_arg3 main_v16 (mulf : (⟨S8192x64, .f32⟩ : BufTy).Contents (Elt F) → (⟨S8192x64, .f32⟩ : BufTy).Contents (Elt F) → (⟨S8192x64, .f32⟩ : BufTy).Contents (Elt F)),
    nullary main_cst_1 (constant S_ .f32 0x00000000#32),
    binary main_v16 main_cst_1 main_v17 ((fun x v => Host.reduceAdd x v reducesTo_S8192x64_S8192_d1 h_S_) : (⟨S8192x64, .f32⟩ : BufTy).Contents (Elt F) → (⟨S_, .f32⟩ : BufTy).Contents (Elt F) → (⟨S8192, .f32⟩ : BufTy).Contents (Elt F)),
    unary main_v17 main_v18 (broadcastInDim S1x8192 ![1] bcast_S8192_S1x8192_1 : (⟨S8192, .f32⟩ : BufTy).Contents (Elt F) → (⟨S1x8192, .f32⟩ : BufTy).Contents (Elt F)),
    unary main_v18 main_v19 (broadcastInDim S32768x8192 ![0, 1] bcast_S1x8192_S32768x8192_0_1 : (⟨S1x8192, .f32⟩ : BufTy).Contents (Elt F) → (⟨S32768x8192, .f32⟩ : BufTy).Contents (Elt F)),
    binary main_v15 main_v19 main_v20 (addf : (⟨S32768x8192, .f32⟩ : BufTy).Contents (Elt F) → (⟨S32768x8192, .f32⟩ : BufTy).Contents (Elt F) → (⟨S32768x8192, .f32⟩ : BufTy).Contents (Elt F)),
    unary main_v20 main_v21 (Host.negf : (⟨S32768x8192, .f32⟩ : BufTy).Contents (Elt F) → (⟨S32768x8192, .f32⟩ : BufTy).Contents (Elt F)),
    TRef.nullary main_call0.v0 (iotaInDim S32768x8192 32 1),
    TRef.nullary main_call0.cst (constant S_ .f32 0xFF800000#32),
    TRef.nullary main_call0.c (constantI S_ 32 0#32),
    TRef.quaternary (TRef.of main_v21 : TRef sig ⟨S32768x8192, .f32⟩) main_call0.v0 main_call0.cst main_call0.c main_call0.v1_0 g,
    TRef.quaternary (TRef.of main_v21 : TRef sig ⟨S32768x8192, .f32⟩) main_call0.v0 main_call0.cst main_call0.c main_call0.v1_1 g',
    nullary main_c (constantI S_ 32 0#32),
    TRef.unary (TRef.of main_c : TRef sig ⟨S_, .i32⟩) main_call1.v0 (sitofp .f32),
    TRef.binary (TRef.of main_arg3 : TRef sig ⟨S8192x64, .f32⟩) main_call1.v0 main_call1.v1 (fun x v => pad S8192x128 ![0, 0] ![0, 64] ![0, 0] x v pads_S8192x64_S8192x128_000_0640 h_S_),
    reshape main_v4 main_v24 (rfl : (.f32 : EltTy) = .f32) shapeCasts_S32x64x32x32_S32x64x1024,
    reshape main_v22 main_v25 (rfl : (.i32 : EltTy) = .i32) shapeCasts_S32768_S32x1x1024 ]

/-- The operations of the reference. -/
abbrev ops : List (HloOp τ sig (Elt F)) := opsWith greatest greatestAt

theorem main_eq (c : Dev nD) : main (F := F) c = seq ops :=
  (show main (F := F) c = seq (opsWith (fun x y u v j => (Host.argReduce reducer_argmax_f32_i32 x y u v reducesTo_S32768x8192_S32768_d1 h_S_ j).1)
    (fun x y u v j => (Host.argReduce reducer_argmax_f32_i32 x y u v reducesTo_S32768x8192_S32768_d1 h_S_ j).2)) from rfl).trans
    (congrArg seq (congrArg₂ opsWith (searchOf_def _ _ _) (searchAt_def _ _ _)))
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., unary_bufs_sub .., unary_bufs_sub .., unary_bufs_sub .., binary_bufs_sub .., unary_bufs_sub .., reshape_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub .., nullary_bufs_sub .., nullary_bufs_sub .., nullary_bufs_sub .., quaternary_bufs_sub .., quaternary_bufs_sub .., nullary_bufs_sub .., unary_bufs_sub .., binary_bufs_sub .., reshape_bufs_sub .., reshape_bufs_sub ..⟩

set_option maxHeartbeats 2000000 in
/-- The nearest codes, for any search of the greatest entries. -/
theorem codes_stage (g : Search1 F) (g' : Search2 F) (m : (ℓ : Loc nD τ sig) → Buf (Elt F) ℓ) (c : Dev nD) :
    after (opsWith g g') (launchContents m c) (Proc.tc.devRef main_v25)
      = shapeCast S32x1x1024 (g' (minusDist (flat (ze (m ((c.tc : Thread nD τ).loc main_arg0)) (m ((c.tc : Thread nD τ).loc main_arg1)) (m ((c.tc : Thread nD τ).loc main_arg2)))) (m ((c.tc : Thread nD τ).loc main_arg3)))
          (iotaInDim S32768x8192 32 1) (constant S_ .f32 0xFF800000#32) (constantI S_ 32 0#32)) shapeCasts_S32768_S32x1x1024 := by
  after_results <;> rfl

set_option maxHeartbeats 2000000 in
/-- Every execution ends with the three results and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v24) = shapeCast S32x64x1024 (ze (m ((c.tc : Thread nD τ).loc main_arg0)) (m ((c.tc : Thread nD τ).loc main_arg1)) (m ((c.tc : Thread nD τ).loc main_arg2))) shapeCasts_S32x64x32x32_S32x64x1024
      ∧ r.2.mem ((c.tc : Thread nD τ).loc main_v25) = shapeCast S32x1x1024 (argmax (minusDist (flat (ze (m ((c.tc : Thread nD τ).loc main_arg0)) (m ((c.tc : Thread nD τ).loc main_arg1)) (m ((c.tc : Thread nD τ).loc main_arg2)))) (m ((c.tc : Thread nD τ).loc main_arg3)))) shapeCasts_S32768_S32x1x1024
      ∧ r.2.mem ((c.tc : Thread nD τ).loc main_v23) = padded (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v24).trans (by after_results <;> rfl),
      (h c main_v25).trans (codes_stage _ _ m c),
      (h c main_v23).trans (by after_results <;> rfl),
      (h c main_arg0).trans (by after_results <;> rfl),
      (h c main_arg1).trans (by after_results <;> rfl),
      (h c main_arg2).trans (by after_results <;> rfl),
      (h c main_arg3).trans (by after_results <;> rfl)⟩)
    (run_seq scopedRefs_eq scopedSems_eq defs main (fun _ => ops) main_eq (fun _ => ops_sub) m ρ)

end ArgminReference

end
-- ==== Proof.ArgminLeast.lean ====
/-
  The first place of a least value: the search of each of 8 lanes over 1024 groups, and the least of the lanes' finds, give
  the first place of the least of all 8192.
-/
module

public import Idealize.ShloMosaic.Lib.Pointwise

@[expose] public section

noncomputable section

namespace Argmin

open Idealize.ShloMosaic

/-- `n` is the first place of the least of `D 0` to `D (N - 1)`. -/
structure IsFirst {α : Type} [LinearOrder α] (D : ℕ → α) (N n : ℕ) : Prop where
  lt : n < N
  le : ∀ k, k < N → D n ≤ D k
  first : ∀ k, k < n → D n < D k

theorem exists_isFirst {α : Type} [LinearOrder α] (D : ℕ → α) (N : ℕ) (hN : 0 < N) : ∃ n, IsFirst D N n := by
  classical
  obtain ⟨k, hk, hmin⟩ := Finset.exists_min_image (Finset.range N) D ⟨0, Finset.mem_range.mpr hN⟩
  have hex : ∃ k, k < N ∧ ∀ j, j < N → D k ≤ D j := ⟨k, Finset.mem_range.mp hk, fun j hj => hmin j (Finset.mem_range.mpr hj)⟩
  refine ⟨Nat.find hex, (Nat.find_spec hex).1, (Nat.find_spec hex).2, fun j hj => ?_⟩
  have h1 := Nat.find_min hex hj
  have hlt : j < N := lt_trans hj (Nat.find_spec hex).1
  refine lt_of_le_of_ne ((Nat.find_spec hex).2 j hlt) fun e => h1 ⟨hlt, fun i hi => ?_⟩
  rw [← e]
  exact (Nat.find_spec hex).2 i hi

/-- The least of `v 0` to `v (n - 1)`, and its first place. -/
def least (v : ℕ → EReal) : ℕ → EReal × EReal
  | 0 => (⊤, 0)
  | n + 1 => if v n < (least v n).1 then (v n, ((n : ℝ) : EReal)) else least v n

theorem least_first (v : ℕ → EReal) (hv : ∀ n, v n < ⊤) : ∀ N, 0 < N → ∃ n, IsFirst v N n ∧ least v N = (v n, ((n : ℝ) : EReal))
  | 0, h => absurd h (lt_irrefl 0)
  | 1, _ => ⟨0, ⟨Nat.one_pos, fun k hk => by rw [Nat.lt_one_iff.mp hk], fun k hk => absurd hk (Nat.not_lt_zero k)⟩, by
      show (if v 0 < ⊤ then _ else _) = _
      rw [if_pos (hv 0)]⟩
  | N + 2, _ => by
      obtain ⟨n, hn, e⟩ := least_first v hv (N + 1) (Nat.succ_pos N)
      by_cases h : v (N + 1) < v n
      · refine ⟨N + 1, ⟨by omega, fun k hk => ?_, fun k hk => ?_⟩, ?_⟩
        · rcases Nat.lt_succ_iff_lt_or_eq.mp hk with h1 | h1
          · exact h.le.trans (hn.le k h1)
          · rw [h1]
        · exact lt_of_lt_of_le h (hn.le k hk)
        · show (if v (N + 1) < (least v (N + 1)).1 then _ else _) = _
          rw [e, if_pos h]
      · refine ⟨n, ⟨Nat.lt_succ_of_lt hn.lt, fun k hk => ?_, hn.first⟩, ?_⟩
        · rcases Nat.lt_succ_iff_lt_or_eq.mp hk with h1 | h1
          · exact hn.le k h1
          · rw [h1]; exact not_lt.mp h
        · show (if v (N + 1) < (least v (N + 1)).1 then _ else _) = _
          rw [e, if_neg h]

/-- The first place among all codes, from the first places among those congruent to each `s` modulo 8. -/
theorem least_code (D : ℕ → EReal) (a g : Fin 8 → EReal) (n : ℕ) (hn : IsFirst D 8192 n)
    (hs : ∀ s : Fin 8, ∃ k, IsFirst (fun k => D (8 * k + s.val)) 1024 k ∧ a s = D (8 * k + s.val) ∧ g s = ((k : ℝ) : EReal)) :
    Finset.univ.fold min ⊤ (fun s : Fin 8 => if a s = Finset.univ.fold min ⊤ a then g s * ((8 : ℝ) : EReal) + ((s.val : ℝ) : EReal) else ((16777216 : ℝ) : EReal))
      = ((n : ℝ) : EReal) := by
  have hlt := hn.lt
  have hmin : Finset.univ.fold min ⊤ a = D n := by
    apply le_antisymm
    · rw [Finset.fold_min_le]
      refine Or.inr ⟨⟨n % 8, Nat.mod_lt _ (by decide)⟩, Finset.mem_univ _, ?_⟩
      obtain ⟨k, hk, ha, -⟩ := hs ⟨n % 8, Nat.mod_lt _ (by decide)⟩
      rw [ha]
      refine (hk.le (n / 8) (by omega)).trans (le_of_eq ?_)
      show D (8 * (n / 8) + n % 8) = _
      rw [Nat.div_add_mod]
    · rw [Finset.le_fold_min]
      refine ⟨le_top, fun s _ => ?_⟩
      obtain ⟨k, hk, ha, -⟩ := hs s
      rw [ha]
      have := hk.lt
      have := s.isLt
      exact hn.le _ (by omega)
  rw [hmin]
  apply le_antisymm
  · rw [Finset.fold_min_le]
    refine Or.inr ⟨⟨n % 8, Nat.mod_lt _ (by decide)⟩, Finset.mem_univ _, ?_⟩
    obtain ⟨k, hk, ha, hg⟩ := hs ⟨n % 8, Nat.mod_lt _ (by decide)⟩
    have e : D (8 * (n / 8) + n % 8) = D n := by rw [Nat.div_add_mod]
    have hkn : k = n / 8 := by
      have h1 : D (8 * k + n % 8) ≤ D (8 * (n / 8) + n % 8) := hk.le (n / 8) (by omega)
      have hk8 := hk.lt
      have h2 : D n ≤ D (8 * k + n % 8) := hn.le _ (by omega)
      rcases lt_trichotomy k (n / 8) with h | h | h
      · have h3 : D n < D (8 * k + n % 8) := hn.first _ (by omega)
        rw [e] at h1
        exact absurd h3 (not_lt.mpr h1)
      · exact h
      · have h3 : D (8 * k + n % 8) < D (8 * (n / 8) + n % 8) := hk.first (n / 8) h
        rw [e] at h3
        exact absurd h3 (not_lt.mpr h2)
    rw [if_pos (by rw [ha, hkn]; exact e), hg, hkn]
    rw [← EReal.coe_mul, ← EReal.coe_add, EReal.coe_le_coe_iff]
    have : ((n / 8 : ℕ) : ℝ) * 8 + ((n % 8 : ℕ) : ℝ) = (n : ℝ) := by
      have := Nat.div_add_mod n 8
      exact_mod_cast (by omega : n / 8 * 8 + n % 8 = n)
    exact this.le
  · rw [Finset.le_fold_min]
    refine ⟨le_top, fun s _ => ?_⟩
    obtain ⟨k, hk, ha, hg⟩ := hs s
    split
    · rename_i h
      rw [hg, ← EReal.coe_mul, ← EReal.coe_add, EReal.coe_le_coe_iff]
      have : n ≤ k * 8 + s.val := by
        by_contra hc
        have h3 : D n < D (8 * k + s.val) := hn.first _ (by omega)
        rw [← ha, h] at h3
        exact lt_irrefl _ h3
      exact_mod_cast this
    · rw [EReal.coe_le_coe_iff]
      have : n ≤ 16777216 := by omega
      exact_mod_cast this

/-- The first of the greatest pairs of a list, in the order that `f` picks by. -/
theorem foldl_greatest {α : Type} (f : α → α → α) (ge : α → α → Prop) (hf : ∀ a b, f a b = a ∨ f a b = b)
    (hl : ∀ a b, ge a b → f a b = a) (hr : ∀ a b, ge a b → f b a = a) (t : α) :
    ∀ (l : List α) (init : α), (∀ q ∈ init :: l, ge t q) → t ∈ init :: l → l.foldl f init = t
  | [], init, _, hm => (List.mem_singleton.mp hm).symm
  | q :: l, init, hge, hm => by
      rw [List.foldl_cons]
      have h0 : ge t init := hge init (List.mem_cons_self ..)
      have h1 : ge t q := hge q (List.mem_cons_of_mem _ (List.mem_cons_self ..))
      refine foldl_greatest f ge hf hl hr t l (f init q) (fun p hp => ?_) ?_
      · rcases List.mem_cons.mp hp with h | h
        · rw [h]; rcases hf init q with h' | h' <;> rw [h'] <;> assumption
        · exact hge p (List.mem_cons_of_mem _ (List.mem_cons_of_mem _ h))
      · rcases List.mem_cons.mp hm with h | h
        · rw [← h, hl t q h1]; exact List.mem_cons_self ..
        · rcases List.mem_cons.mp h with h | h
          · rw [← h, hr t init h0]; exact List.mem_cons_self ..
          · exact List.mem_cons_of_mem _ h

theorem fptosi_nat (n : ℕ) (h : n < 8192) : Ideal.fptosi 32 ((n : ℝ) : EReal) = BitVec.ofNat 32 n := by
  have e : Ideal.toIntClamped (-(2 ^ (32 - 1) : Nat)) ((2 ^ (32 - 1) : Nat) - 1) ((n : ℝ) : EReal) = (n : ℤ) := by
    show max _ (min _ (if (0 : ℝ) ≤ (n : ℝ) then ⌊(n : ℝ)⌋ else ⌈(n : ℝ)⌉)) = _
    rw [if_pos (Nat.cast_nonneg n), Int.floor_natCast]
    norm_num
    omega
  unfold Ideal.fptosi
  rw [e]
  exact BitVec.ofInt_natCast 32 n

end Argmin

end
-- ==== Proof.ArgminLanes.lean ====
/-
  Over the extended reals: what one group's distances are, and that the search gives the first code at the least distance.
-/
module

public import proofs.«01_k».proof.Proof.ArgminPoints
public import proofs.«01_k».proof.Proof.ArgminLeast
public import Idealize.ShloMosaic.Lib.IdealHost

@[expose] public section

set_option maxRecDepth 16384

noncomputable section

namespace Argmin

open Idealize.ShloMosaic Idealize.ShloMosaic.TcCoe Idealize.SL.Sem
open Cert.ArgminIdeal Cert.ArgminIdeal.Gen

theorem ofBits_top : Ideal.ofBits .f32 0x7F800000#32 = ⊤ := by simp [Ideal.ofBits, Ideal.ieee]
theorem ofBits_bot : Ideal.ofBits .f32 0xFF800000#32 = ⊥ := by simp [Ideal.ofBits, Ideal.ieee]
theorem ofBits_eight : Ideal.ofBits .f32 0x41000000#32 = ((8 : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num
theorem ofBits_minus_two : Ideal.ofBits .f32 0xC0000000#32 = ((-2 : ℝ) : EReal) := by
  simp [Ideal.ofBits, Ideal.ieee, -EReal.coe_mul, -EReal.coe_neg]; norm_num
theorem ofBits_large : Ideal.ofBits .f32 0x4B800000#32 = ((16777216 : ℝ) : EReal) := by
  simp [Ideal.ofBits, Ideal.ieee, -EReal.coe_mul]; norm_num

theorem word_fields : ∀ n : Fin 1024, (word n).extractLsb' 31 1 = 0#1 ∧ ((n.val = 0 ∧ word n = 0#32) ∨ (n.val.log2 < 10 ∧ 2 ^ n.val.log2 ≤ n.val
    ∧ ((word n).extractLsb' 23 8).toNat = 127 + n.val.log2 ∧ ((word n).extractLsb' 0 23).toNat = (n.val - 2 ^ n.val.log2) * 2 ^ (23 - n.val.log2))) := by
  decide +kernel

/-- The word of `n` is `n`. -/
theorem ofBits_word (n : ℕ) (h : n < 1024) : Ideal.ofBits .f32 (word n) = ((n : ℝ) : EReal) := by
  obtain ⟨hs, h0 | ⟨hl, hle, he, hf⟩⟩ := word_fields ⟨n, h⟩
  · rw [h0.2, Ideal.ofBits_zero_f32, show n = 0 from h0.1]; simp
  · dsimp only at hs hl hle he hf
    show Ideal.ieee 8 23 (word n) = _
    unfold Ideal.ieee
    rw [he, hf, hs]
    generalize hL : n.log2 = L at *
    obtain ⟨k, rfl⟩ : ∃ k, n = 2 ^ L + k := ⟨n - 2 ^ L, (Nat.add_sub_cancel' hle).symm⟩
    dsimp only
    rw [if_neg (by omega), if_neg (by omega), Nat.add_sub_cancel_left]
    congr 1
    interval_cases L <;> (norm_num; try ring_nf)

section Lane

variable {F : FTy → Type} [FloatOps F]

theorem group_apply (d : FVec F S128x8x1024 .f32) (n : ℕ) (s : Fin 8) (p : Fin 1024) :
    group d n (ix2 s p) = d (ix3 ⟨n % 128, Nat.mod_lt _ (by decide)⟩ s p) := by
  unfold group
  pointwise

end Lane

theorem fold_lane (d : FVec Ideal S128x8x1024 .f32) (s : FVec Ideal S8x1024 .f32 × FVec Ideal S8x1024 .f32) (c : ℕ) (hc : c < 8) (j : S8x1024.Idx)
    (v : ℕ → EReal) (hv : ∀ k, k < 128 → group d k j = v (128 * c + k)) (hs : (s.1 j, s.2 j) = least v (128 * c)) :
    ∀ k, k ≤ 128 → (best d s.1 k j, bestGroup d s.1 s.2 (128 * c) k j) = least v (128 * c + k)
  | 0, _ => hs
  | k + 1, hk => by
      have ih := fold_lane d s c hc j v hv hs k (by omega)
      show (Scalar.select (Ideal.cmp .olt (group d k j) (best d s.1 k j)) (group d k j) (best d s.1 k j),
        Scalar.select (Ideal.cmp .olt (group d k j) (best d s.1 k j)) (Ideal.ofBits .f32 (word (128 * c + k))) (bestGroup d s.1 s.2 (128 * c) k j))
          = if v (128 * c + k) < (least v (128 * c + k)).1 then _ else _
      rw [← ih, hv k (by omega), ofBits_word _ (by omega)]
      dsimp only
      by_cases h : v (128 * c + k) < best d s.1 k j
      · rw [if_pos h]; simp [Ideal.cmp, h, Scalar.select]
      · rw [if_neg h]
        refine Eq.trans ?_ ih
        simp [Ideal.cmp, h, Scalar.select]

theorem after_def {F : FTy → Type} [FloatOps F] (d : FVec F S128x8x1024 .f32) (c : ℕ) (s : FVec F S8x1024 .f32 × FVec F S8x1024 .f32) :
    after d c s = (best d s.1 128, bestGroup d s.1 s.2 (128 * c) 128) := by unfold after; rfl

theorem after_lane (d : FVec Ideal S128x8x1024 .f32) (s : FVec Ideal S8x1024 .f32 × FVec Ideal S8x1024 .f32) (c : ℕ) (hc : c < 8) (j : S8x1024.Idx)
    (v : ℕ → EReal) (hv : ∀ k, k < 128 → group d k j = v (128 * c + k)) (hs : (s.1 j, s.2 j) = least v (128 * c)) :
    ((after d c s).1 j, (after d c s).2 j) = least v (128 * (c + 1)) := by
  obtain ⟨n, hn⟩ : ∃ n, n = 128 := ⟨_, rfl⟩
  have h := fold_lane d s c hc j v hv hs n (le_of_eq hn)
  rw [hn] at h
  rw [after_def, Nat.mul_add_one]
  dsimp only
  exact h

theorem before_lane (j : S8x1024.Idx) (v : ℕ → EReal) : ((before (F := Ideal)).1 j, (before (F := Ideal)).2 j) = least v (128 * 0) := by
  show (Ideal.ofBits .f32 0x7F800000#32, Ideal.ofBits .f32 0x00000000#32) = (⊤, 0)
  rw [ofBits_top, Ideal.ofBits_zero_f32]

/-- The distance of code `n` from column `p`. -/
def dist (z : FVec Ideal S64x1024 .f32) (T : FVec Ideal S8192x64 .f32) (p : Fin 1024) (n : ℕ) : EReal :=
  (∑ k : Fin 64, z (ix2 k p) * z (ix2 k p)) + (∑ k : Fin 64, ((-2 : ℝ) : EReal) * T (ix2 ⟨n % 8192, Nat.mod_lt _ (by decide)⟩ k) * z (ix2 k p))
    + ∑ k : Fin 64, T (ix2 ⟨n % 8192, Nat.mod_lt _ (by decide)⟩ k) * T (ix2 ⟨n % 8192, Nat.mod_lt _ (by decide)⟩ k)

theorem chunk_apply (z : FVec Ideal S64x1024 .f32) (x : FVec Ideal S1024 .f32) (e : Vec Ideal S1024x64 .f32) (n : Vec Ideal S1024x1 .f32) (k : Fin 128) (s : Fin 8) (p : Fin 1024) :
    chunk z x e n (ix3 k s p) = x (ix1 p) + (∑ i : Fin 64, e (ix2 ⟨8 * k.val + s.val, by omega⟩ i) * z (ix2 i p)) + n (ix2 ⟨8 * k.val + s.val, by omega⟩ 0) := by
  pointwise [chunk]
  simp only [Nat.mul_comm k.val 8]

theorem norms_apply (z : FVec Ideal S64x1024 .f32) (p : Fin 1024) : norms z (ix1 p) = ∑ k : Fin 64, z (ix2 k p) * z (ix2 k p) := by
  pointwise [norms]

theorem codeNorms_apply (e : Vec Ideal S1024x64 .f32) (r : Fin 1024) : codeNorms e (ix2 r 0) = ∑ k : Fin 64, e (ix2 r k) * e (ix2 r k) := by
  pointwise [codeNorms]

theorem proj_apply (x : Vec Ideal S1x384x1024 .f32) (w : Vec Ideal S64x384 .f32) (b : Vec Ideal S64x1 .f32) (d : Fin 64) (p : Fin 1024) :
    proj x w b (ix2 d p) = (∑ k : Fin 384, w (ix2 d k) * x (ix3 0 k p)) + b (ix2 d 0) := by
  pointwise [proj]

theorem nearest_apply (s : FVec Ideal S8x1024 .f32 × FVec Ideal S8x1024 .f32) (p : Fin 1024) :
    nearest s (ix3 0 0 p) = Ideal.fptosi 32 (Finset.univ.fold min ⊤ (fun r : Fin 8 =>
      if s.1 (ix2 r p) = Finset.univ.fold min ⊤ (fun r : Fin 8 => s.1 (ix2 r p)) then s.2 (ix2 r p) * ((8 : ℝ) : EReal) + ((r.val : ℝ) : EReal) else ((16777216 : ℝ) : EReal))) := by
  pointwise [nearest]
  rw [ofBits_top, ofBits_eight, ofBits_large]
  show Ideal.fptosi 32 _ = _
  congr 2
  funext r
  have hr : FloatOps.sitofp (F := Ideal) FTy.f32 (BitVec.ofNat 32 r.val) = ((r.val : ℝ) : EReal) := by
    show (((BitVec.ofNat 32 r.val).toInt : ℝ) : EReal) = _
    have : ∀ r : Fin 8, (BitVec.ofNat 32 r.val).toInt = (r.val : ℤ) := by decide
    rw [this r, Int.cast_natCast]
  rw [hr]

theorem ld_norms {e : EltTy} {F : FTy → Type} (x : S8192x1.Idx → Elt F e) (c o : ℕ) (ho : o = 1024 * c) (hc : c < 8)
    (h : ∀ a, (![o, 0] : Fin 2 → Nat) a + S1024x1.size a ≤ S8192x1.size a) (r : Fin 1024) :
    View.ld x (Rect.unit (s := S8192x1) ![o, 0] S1024x1.size h) (ix2 r 0) = x (ix2 ⟨1024 * c + r.val, by omega⟩ 0) := by
  subst ho
  refine congrArg x (funext fun a => Fin.ext ?_)
  fin_cases a
  · show 1024 * c + 1 * r.val = 1024 * c + r.val
    omega
  · rfl

theorem enOf_apply (T : FVec Ideal S8192x64 .f32) (r : Fin 8192) : enOf (F := Ideal) T (ix2 r 0) = (∑ k : Fin 64, T (ix2 r k) * T (ix2 r k) : EReal) := by
  have e : enOf (F := Ideal) T (ix2 r 0) = codeNorms (F := Ideal) (rowsOf T ⟨r.val / 1024, by omega⟩) (ix2 ⟨r.val % 1024, Nat.mod_lt _ (by decide)⟩ 0) := rfl
  rw [e, codeNorms_apply]
  refine Finset.sum_congr rfl fun k _ => ?_
  have e' : rowsOf T ⟨r.val / 1024, by omega⟩ (ix2 ⟨r.val % 1024, Nat.mod_lt _ (by decide)⟩ k) = T (ix2 r k) := by
    show T (ix2 _ _) = _
    congr 2
    exact Fin.ext (Nat.div_add_mod r.val 1024)
  rw [e']

/-- The distances in a chunk. -/
theorem chunk_lane (z : FVec Ideal S64x1024 .f32) (T : FVec Ideal S8192x64 .f32) (c o : ℕ) (ho : o = 1024 * c) (hc : c < 8)
    (h : ∀ a, (![o, 0] : Fin 2 → Nat) a + S1024x64.size a ≤ S8192x64.size a)
    (h' : ∀ a, (![o, 0] : Fin 2 → Nat) a + S1024x1.size a ≤ S8192x1.size a) (s : Fin 8) (p : Fin 1024) (k : ℕ) (hk : k < 128) :
    group (chunk z (norms z) (View.ld (e2Of (F := Ideal) T) (Rect.unit (s := S8192x64) ![o, 0] S1024x64.size h))
        (View.ld (enOf (F := Ideal) T) (Rect.unit (s := S8192x1) ![o, 0] S1024x1.size h'))) k (ix2 s p)
      = dist z T p (8 * (128 * c + k) + s.val) := by
  rw [group_apply, chunk_apply, norms_apply, ld_rows (F := Ideal) (e := .f32) (e2Of (F := Ideal) T) ⟨c, hc⟩ o ho, ld_norms (F := Ideal) (e := .f32) (enOf (F := Ideal) T) c o ho hc, enOf_apply]
  unfold dist
  have e : ∀ i : Fin 64, rowsOf (e2Of (F := Ideal) T) ⟨c, hc⟩ (ix2 ⟨8 * (k % 128) + s.val, by omega⟩ i)
      = ((-2 : ℝ) : EReal) * T (ix2 ⟨(8 * (128 * c + k) + s.val) % 8192, Nat.mod_lt _ (by decide)⟩ i) := fun i => by
    show Ideal.ofBits .f32 0xC0000000#32 * T (ix2 _ _) = _
    rw [ofBits_minus_two]
    congr 3
    exact Fin.ext (show 1024 * c + (8 * (k % 128) + s.val) = (8 * (128 * c + k) + s.val) % 8192 by omega)
  have e' : (⟨1024 * c + (8 * (k % 128) + s.val), by omega⟩ : Fin 8192) = ⟨(8 * (128 * c + k) + s.val) % 8192, Nat.mod_lt _ (by decide)⟩ :=
    Fin.ext (show 1024 * c + (8 * (k % 128) + s.val) = (8 * (128 * c + k) + s.val) % 8192 by omega)
  dsimp only at *
  simp only [e, e']

/-- One chunk of the search. -/
theorem step_lane (z : FVec Ideal S64x1024 .f32) (T : FVec Ideal S8192x64 .f32) (c o : ℕ) (ho : o = 1024 * c) (hc : c < 8)
    (h : ∀ a, (![o, 0] : Fin 2 → Nat) a + S1024x64.size a ≤ S8192x64.size a)
    (h' : ∀ a, (![o, 0] : Fin 2 → Nat) a + S1024x1.size a ≤ S8192x1.size a) (s : Fin 8) (p : Fin 1024)
    (q : FVec Ideal S8x1024 .f32 × FVec Ideal S8x1024 .f32)
    (hq : (q.1 (ix2 s p), q.2 (ix2 s p)) = least (fun k => dist z T p (8 * k + s.val)) (128 * c)) :
    ((after (chunk z (norms z) (View.ld (e2Of (F := Ideal) T) (Rect.unit (s := S8192x64) ![o, 0] S1024x64.size h))
        (View.ld (enOf (F := Ideal) T) (Rect.unit (s := S8192x1) ![o, 0] S1024x1.size h'))) c q).1 (ix2 s p),
      (after (chunk z (norms z) (View.ld (e2Of (F := Ideal) T) (Rect.unit (s := S8192x64) ![o, 0] S1024x64.size h))
        (View.ld (enOf (F := Ideal) T) (Rect.unit (s := S8192x1) ![o, 0] S1024x1.size h'))) c q).2 (ix2 s p))
      = least (fun k => dist z T p (8 * k + s.val)) (128 * (c + 1)) :=
  after_lane _ q c hc _ (fun k => dist z T p (8 * k + s.val)) (fun k hk => chunk_lane z T c o ho hc h h' s p k hk) hq

/-- The pair that the nearest codes are read from. -/
theorem codes_lane (x : Vec Ideal S1x384x1024 .f32) (w : Vec Ideal S64x384 .f32) (b : Vec Ideal S64x1 .f32) (T : FVec Ideal S8192x64 .f32) :
    ∃ q : FVec Ideal S8x1024 .f32 × FVec Ideal S8x1024 .f32, codesOf x w b (e2Of (F := Ideal) T) (enOf (F := Ideal) T) = nearest q
      ∧ ∀ (s : Fin 8) (p : Fin 1024), (q.1 (ix2 s p), q.2 (ix2 s p)) = least (fun k => dist (proj x w b) T p (8 * k + s.val)) (128 * 8) := by
  unfold codesOf codesFrom
  dsimp only
  refine ⟨_, rfl, fun s p => ?_⟩
  refine step_lane (proj x w b) T 7 7168 rfl (by decide) _ _ s p _ ?_
  refine step_lane (proj x w b) T 6 6144 rfl (by decide) _ _ s p _ ?_
  refine step_lane (proj x w b) T 5 5120 rfl (by decide) _ _ s p _ ?_
  refine step_lane (proj x w b) T 4 4096 rfl (by decide) _ _ s p _ ?_
  refine step_lane (proj x w b) T 3 3072 rfl (by decide) _ _ s p _ ?_
  refine step_lane (proj x w b) T 2 2048 rfl (by decide) _ _ s p _ ?_
  refine step_lane (proj x w b) T 1 1024 rfl (by decide) _ _ s p _ ?_
  refine step_lane (proj x w b) T 0 0 rfl (by decide) _ _ s p _ ?_
  exact before_lane _ _

/-- A block's code is the first nearest. -/
theorem codes_first (x : Vec Ideal S1x384x1024 .f32) (w : Vec Ideal S64x384 .f32) (b : Vec Ideal S64x1 .f32) (T : FVec Ideal S8192x64 .f32)
    (p : Fin 1024) (hfin : ∀ n, dist (proj x w b) T p n < ⊤) (n : ℕ) (hn : IsFirst (dist (proj x w b) T p) 8192 n) :
    codesOf x w b (e2Of (F := Ideal) T) (enOf (F := Ideal) T) (ix3 0 0 p) = BitVec.ofNat 32 n := by
  obtain ⟨q, e, hq⟩ := codes_lane x w b T
  rw [e, nearest_apply, ← fptosi_nat n hn.lt]
  congr 1
  refine least_code (dist (proj x w b) T p) (fun r => q.1 (ix2 r p)) (fun r => q.2 (ix2 r p)) n hn fun s => ?_
  obtain ⟨k, hk, ek⟩ := least_first (fun k => dist (proj x w b) T p (8 * k + s.val)) (fun k => hfin _) (128 * 8) (by decide)
  have hs := hq s p
  rw [ek] at hs
  exact ⟨k, hk, congrArg Prod.fst hs, congrArg Prod.snd hs⟩

end Argmin

end
-- ==== Proof.ArgminRefValue.lean ====
/-
  The reference's results at an index: the projection, the distances, and that its argmax of the negated distances is the
  first code at the least distance.
-/
module

public import proofs.«01_k».proof.Proof.ArgminRefRun
public import proofs.«01_k».proof.Proof.ArgminLanes
public import Idealize.ShloMosaic.PureOps.Reduce

@[expose] public section

noncomputable section

namespace ArgminReference

open Cert.ArgminRefIdeal Cert.ArgminRefIdeal.Gen Idealize.ShloMosaic Idealize.ShloMosaic.TcCoe Idealize.SL.Sem Idealize.ShloMosaic.StableHlo
open Argmin (IsFirst)

/-- The order that the reducer picks by: the greater value, then the lesser place. -/
def ge (a b : EReal × BitVec 32) : Prop := b.1 < a.1 ∨ (a.1 = b.1 ∧ a.2.toInt ≤ b.2.toInt)

theorem reducer_eq (a b : EReal × BitVec 32) :
    reducer_argmax_f32_i32 (F := Ideal) a b
      = (if b.1 < a.1 then a.1 else b.1, if b.1 < a.1 ∨ (a.1 = b.1 ∧ a.2.toInt < b.2.toInt) then a.2 else b.2) := by
  show ((Scalar.select (IntOp.ori (Ideal.cmp .ogt a.1 b.1) (Ideal.cmp .une a.1 a.1)) a.1 b.1,
    Scalar.select (IntOp.ori (IntOp.ori (Ideal.cmp .ogt a.1 b.1) (Ideal.cmp .une a.1 a.1)) (IntOp.andi (Ideal.cmp .oeq a.1 b.1) (IntOp.cmpi .slt a.2 b.2))) a.2 b.2) : EReal × BitVec 32) = _
  by_cases h : b.1 < a.1 <;> by_cases h1 : a.1 = b.1 <;> by_cases h2 : a.2.toInt < b.2.toInt <;>
    simp [Ideal.cmp, h, h1, h2, Scalar.select, IntOp.ori, IntOp.andi, IntOp.cmpi, BitVec.slt]

theorem reducer_or (a b : EReal × BitVec 32) : reducer_argmax_f32_i32 (F := Ideal) a b = a ∨ reducer_argmax_f32_i32 (F := Ideal) a b = b := by
  rw [reducer_eq]
  by_cases h : b.1 < a.1
  · left; rw [if_pos h, if_pos (Or.inl h)]
  · rw [if_neg h]
    by_cases h' : a.1 = b.1 ∧ a.2.toInt < b.2.toInt
    · left; rw [if_pos (Or.inr h'), ← h'.1]
    · right; rw [if_neg (by tauto)]

theorem reducer_left (a b : EReal × BitVec 32) (h : ge a b) : reducer_argmax_f32_i32 (F := Ideal) a b = a := by
  rw [reducer_eq]
  rcases h with h | ⟨h, h'⟩
  · rw [if_pos h, if_pos (Or.inl h)]
  · rw [if_neg (by rw [h]; exact lt_irrefl _)]
    by_cases h'' : a.2.toInt < b.2.toInt
    · rw [if_pos (Or.inr ⟨h, h''⟩), ← h]
    · have e : a.2 = b.2 := BitVec.eq_of_toInt_eq (le_antisymm h' (not_lt.mp h''))
      rw [← h, e, ite_self, ← e]

theorem reducer_right (a b : EReal × BitVec 32) (h : ge a b) : reducer_argmax_f32_i32 (F := Ideal) b a = a := by
  rw [reducer_eq]
  have h1 : ¬ a.1 < b.1 := by
    rcases h with h | ⟨h, -⟩
    · exact not_lt.mpr h.le
    · rw [h]; exact lt_irrefl _
  have h2 : ¬ (b.1 = a.1 ∧ b.2.toInt < a.2.toInt) := by
    rintro ⟨e, l⟩
    rcases h with h | ⟨h, h'⟩
    · rw [e] at h; exact lt_irrefl _ h
    · omega
  rw [if_neg h1, if_neg (by tauto)]

/-- The search gives the place of the pair that is first in that order. -/
theorem searchAt_first {s t u : Shape} {axes : List (Fin s.rank)} (x : FVec Ideal s .f32) (y : IVec s 32) (ix : FVec Ideal u .f32) (iy : IVec u 32)
    (h : s.ReducesTo axes t) (hu : 0 < u.numel) (j : t.Idx) (i : s.Idx) (hi : h.drop i = j)
    (h0 : ge (x i, y i) (ix (Shape.Idx.first hu), iy (Shape.Idx.first hu)))
    (hge : ∀ k, h.drop k = j → ge (x i, y i) (x k, y k)) :
    searchAt (reducer_argmax_f32_i32 (F := Ideal)) h hu x y ix iy j = y i := by
  unfold searchAt
  suffices e : Host.argReduce (reducer_argmax_f32_i32 (F := Ideal)) x y ix iy h hu j = (x i, y i) from congrArg Prod.snd e
  rw [Ideal.argReduce_eq_reduce2, Host.reduce2_eq_foldl_fiber]
  refine Argmin.foldl_greatest _ ge reducer_or reducer_left reducer_right _ _ _ (fun q hq => ?_) (List.mem_cons_of_mem _ ?_)
  · rcases List.mem_cons.mp hq with e | e
    · rw [e]; exact h0
    · obtain ⟨n, hn, rfl⟩ := List.mem_map.mp e
      exact hge _ (of_decide_eq_true (List.mem_filter.mp hn).2)
  · refine List.mem_map.mpr ⟨s.rowMajor i, List.mem_filter.mpr ⟨List.mem_finRange _, ?_⟩, ?_⟩
    · rw [Equiv.symm_apply_apply]; exact decide_eq_true hi
    · rw [Equiv.symm_apply_apply]

theorem drop_eq (i : S32768x8192.Idx) : reducesTo_S32768x8192_S32768_d1.drop i = ix1 (i 0) := by
  funext a
  apply Fin.ext
  match a with
  | ⟨0, _⟩ => rfl

theorem toInt_small (n : ℕ) (h : n < 8192) : (BitVec.ofNat 32 n).toInt = (n : ℤ) := by
  have h1 : (BitVec.ofNat 32 n).toNat = n := by rw [BitVec.toNat_ofNat]; exact Nat.mod_eq_of_lt (by omega)
  rw [BitVec.toInt_eq_toNat_of_lt (by rw [h1]; omega), h1]

/-- The first greatest entry of a row of negated values is the first least value. -/
theorem argmax_first (d : FVec Ideal S32768x8192 .f32) (r : Fin 32768) (D : ℕ → EReal) (hd : ∀ k : Fin 8192, d (ix2 r k) = -(D k.val))
    (hfin : ∀ k, D k < ⊤) (n : ℕ) (hn : IsFirst D 8192 n) : argmax d (ix1 r) = BitVec.ofNat 32 n := by
  have hy : ∀ k : Fin 8192, iotaInDim S32768x8192 32 1 (ix2 r k) = BitVec.ofNat 32 k.val := fun k => rfl
  have key := searchAt_first d (iotaInDim S32768x8192 32 1) (constant S_ .f32 0xFF800000#32) (constantI S_ 32 0#32)
    reducesTo_S32768x8192_S32768_d1 h_S_ (ix1 r) (ix2 r ⟨n, hn.lt⟩) (drop_eq _) ?_ ?_
  · have h1 := congrFun (argmax_def d) (ix1 r)
    exact (h1.trans key).trans (hy ⟨n, hn.lt⟩)
  · left
    show Ideal.ofBits .f32 0xFF800000#32 < d (ix2 r ⟨n, hn.lt⟩)
    rw [Argmin.ofBits_bot, hd]
    exact bot_lt_iff_ne_bot.mpr fun e => (hfin n).ne (EReal.neg_eq_bot_iff.mp e)
  · intro k hk
    rw [drop_eq] at hk
    have hk0 : k 0 = r := congrFun hk 0
    obtain ⟨k1, rfl⟩ : ∃ k1 : Fin 8192, k = ix2 r k1 := ⟨k 1, by rw [← hk0]; exact eq_ix2 k⟩
    rw [hd, hd, hy, hy]
    rcases lt_or_eq_of_le (hn.le k1.val k1.isLt) with h | h
    · left
      exact EReal.neg_lt_neg_iff.mpr h
    · right
      refine ⟨congrArg Neg.neg h, ?_⟩
      show (BitVec.ofNat 32 n).toInt ≤ (BitVec.ofNat 32 k1.val).toInt
      rw [toInt_small _ hn.lt, toInt_small _ k1.isLt]
      by_contra hc
      exact absurd (hn.first k1.val (by omega)) (by rw [h]; exact lt_irrefl _)

theorem ze_apply (x : FVec Ideal S32x384x32x32 .f32) (w : FVec Ideal S64x384 .f32) (b : FVec Ideal S64 .f32) (t : Fin 32) (d : Fin 64) (h v : Fin 32) :
    ze x w b (ix4 t d h v) = (∑ k : Fin 384, w (ix2 d k) * x (ix4 t k h v)) + b (ix1 d) := by
  pointwise [ze]

theorem flat_apply (z : FVec Ideal S32x64x32x32 .f32) (t : Fin 32) (p : Fin 1024) (d : Fin 64) :
    flat z (ix2 ⟨1024 * t.val + p.val, by omega⟩ d) = z (ix4 t d ⟨p.val / 32, by omega⟩ ⟨p.val % 32, Nat.mod_lt _ (by decide)⟩) := by
  pointwise [flat]
  have e1 : (1024 * t.val + p.val) / 32 % 32 = p.val / 32 := by omega
  have e2 : (1024 * t.val + p.val) % 32 = p.val % 32 := by omega
  simp only [e1, e2]

theorem minusDist_apply (f : FVec Ideal S32768x64 .f32) (e : FVec Ideal S8192x64 .f32) (r : Fin 32768) (n : Fin 8192) :
    minusDist f e (ix2 r n) = -(((∑ k : Fin 64, f (ix2 r k) * f (ix2 r k)) - ∑ k : Fin 64, ((2 : ℝ) : EReal) * f (ix2 r k) * e (ix2 n k))
      + ∑ k : Fin 64, e (ix2 n k) * e (ix2 n k)) := by
  pointwise [minusDist]
  rw [Argmin.ofBits_two]

end ArgminReference

end
-- ==== Proof.ArgminValues.lean ====
/-
  The first TensorCore call's three arrays after the last point, and that over real inputs they are the reference's.
  Needed of the inputs is that every distance is a real number: the kernel adds the products with minus two times a code,
  and the reference subtracts those with twice the code, which differ where infinities of both signs meet.
-/
module

public import proofs.«01_k».proof.Defs
public import proofs.«01_k».proof.Proof.ArgminPoints
public import proofs.«01_k».proof.Proof.ArgminRefValue
public import proofs.«01_k».proof.Proof.Gen.Pre_finite
public import Idealize.ShloMosaic.Lib.ReduceAll

@[expose] public section

set_option maxRecDepth 16384

noncomputable section

namespace Argmin

open Idealize.ShloMosaic Idealize.ShloMosaic.TcCoe Idealize.SL.Sem
open Idealize.ShloMosaic.Pipeline (Dat)
open Cert.ArgminIdeal Cert.ArgminIdeal.Gen

/-! ## Finite inputs -/

/-- A real number. -/
def IsReal (x : EReal) : Prop := ∃ r : ℝ, x = (r : EReal)

theorem isReal_of_abs (x : EReal) (h : max x (-x) < ⊤) : IsReal x := by
  induction x with
  | bot => simp at h
  | coe r => exact ⟨r, rfl⟩
  | top => simp at h

theorem coe_sum {n : ℕ} (f : Fin n → ℝ) : ((∑ i, f i : ℝ) : EReal) = ∑ i, ((f i : ℝ) : EReal) :=
  map_sum (⟨⟨((↑) : ℝ → EReal), EReal.coe_zero⟩, EReal.coe_add⟩ : ℝ →+ EReal) f Finset.univ

theorem isReal_sum {n : ℕ} (f : Fin n → EReal) (h : ∀ i, IsReal (f i)) : IsReal (∑ i, f i) := by
  choose g hg using h
  exact ⟨∑ i, g i, by rw [coe_sum]; exact Finset.sum_congr rfl fun i _ => hg i⟩

theorem isReal_mul (x y : EReal) (hx : IsReal x) (hy : IsReal y) : IsReal (x * y) := by
  obtain ⟨a, rfl⟩ := hx; obtain ⟨b, rfl⟩ := hy; exact ⟨a * b, (EReal.coe_mul a b).symm⟩

theorem isReal_add (x y : EReal) (hx : IsReal x) (hy : IsReal y) : IsReal (x + y) := by
  obtain ⟨a, rfl⟩ := hx; obtain ⟨b, rfl⟩ := hy; exact ⟨a + b, (EReal.coe_add a b).symm⟩

/-- Of real vectors, the kernel's and the reference's distance are the same real number. -/
theorem dist_real (z e : Fin 64 → EReal) (hz : ∀ k, IsReal (z k)) (he : ∀ k, IsReal (e k)) :
    IsReal ((∑ k, z k * z k) + (∑ k, ((-2 : ℝ) : EReal) * e k * z k) + ∑ k, e k * e k)
      ∧ ((∑ k, z k * z k) - ∑ k, ((2 : ℝ) : EReal) * z k * e k) + ∑ k, e k * e k
        = (∑ k, z k * z k) + (∑ k, ((-2 : ℝ) : EReal) * e k * z k) + ∑ k, e k * e k := by
  choose z' hz using hz
  choose e' he using he
  simp only [hz, he, ← EReal.coe_mul, ← coe_sum, ← EReal.coe_add, ← EReal.coe_sub]
  refine ⟨⟨_, rfl⟩, ?_⟩
  rw [EReal.coe_eq_coe_iff]
  have h : ∑ k, -2 * e' k * z' k = - ∑ k, 2 * z' k * e' k := by
    rw [← Finset.sum_neg_distrib]
    exact Finset.sum_congr rfl fun k _ => by ring
  rw [h]; ring

theorem isReal_of_all {s t u : Shape} {axes : List (Fin s.rank)} [Subsingleton t.Idx] (x : FVec Ideal s .f32) (y : FVec Ideal s .f32) (hy : ∀ i, y i = ⊤)
    (v : IVec u 1) (h : s.ReducesTo axes t) (hu : 0 < u.numel) (k : t.Idx) (e : Host.reduce IntOp.andi (cmpf .olt (Host.absf x) y) v h hu k = 1#1) (j : s.Idx) :
    IsReal (x j) := by
  have e' := Host.reduce_andi_all _ _ _ _ k e j
  have e2 : Ideal.cmp .olt (max (x j) (-(x j))) (y j) = 1#1 := e'
  rw [hy] at e2
  refine isReal_of_abs _ ?_
  by_contra hc
  simp [Ideal.cmp, hc] at e2

theorem andi_one (a b : BitVec 1) (h : IntOp.andi a b = 1#1) : a = 1#1 ∧ b = 1#1 := by
  revert a b; decide

/-- The precondition says that every input is real. -/
theorem real_of_pre (X : FVec Ideal Cert.Pre_finite.S32x384x32x32 .f32) (W : FVec Ideal Cert.Pre_finite.S64x384 .f32) (B : FVec Ideal Cert.Pre_finite.S64 .f32)
    (T : FVec Ideal Cert.Pre_finite.S8192x64 .f32) (h : Cert.Pre_finite.fn X W B T = fun _ => 1#1) :
    (∀ i, IsReal (X i)) ∧ (∀ i, IsReal (W i)) ∧ (∀ i, IsReal (B i)) ∧ ∀ i, IsReal (T i) := by
  have : Subsingleton Cert.Pre_finite.S_.Idx := ⟨fun a b => funext fun i => i.elim0⟩
  have h0 := congrFun h ix0
  unfold Cert.Pre_finite.fn Cert.Pre_finite.fn_part1 at h0
  obtain ⟨h1, hT⟩ := andi_one _ _ h0
  obtain ⟨h2, hB⟩ := andi_one _ _ h1
  obtain ⟨hX, hW⟩ := andi_one _ _ h2
  exact ⟨isReal_of_all X _ (fun _ => ofBits_top) _ _ _ _ hX, isReal_of_all W _ (fun _ => ofBits_top) _ _ _ _ hW,
    isReal_of_all B _ (fun _ => ofBits_top) _ _ _ _ hB, isReal_of_all T _ (fun _ => ofBits_top) _ _ _ _ hT⟩

/-! ## The blocks -/

section Value

variable (m : (ℓ : Loc nD τ sig) → Buf (Elt Ideal) ℓ)

abbrev inputs (c : Dev nD) : FVec Ideal S32x384x32x32 .f32 := m ((c : Thread nD τ).loc main_arg0)
abbrev weights (c : Dev nD) : FVec Ideal S64x384 .f32 := m ((c : Thread nD τ).loc main_arg1)
abbrev bias (c : Dev nD) : FVec Ideal S64 .f32 := m ((c : Thread nD τ).loc main_arg2)

theorem V_inputs (c : Dev nD) : V m c main_v0 = shapeCast S32x384x1024 (inputs m c) shapeCasts_S32x384x32x32_S32x384x1024 := by
  unfold V
  after_results
  rfl

theorem V_bias (c : Dev nD) : V m c main_v1 = shapeCast S64x1 (bias m c) shapeCasts_S64_S64x1 := by
  unfold V
  after_results
  rfl

/-- The batch entry of a point. -/
abbrev batch (t : Fin cfg0.N) : Fin 32 := ⟨t.val, lt_of_lt_of_eq t.isLt N_0⟩

theorem index0 : ∀ t : Fin cfg0.N, win0_0.index t = ![t.val, 0, 0] :=
  (by decide +kernel : ∀ t : Fin grid0.N, win0_0.index t = ![t.val, 0, 0])
theorem index1 : ∀ t : Fin cfg0.N, win0_1.index t = ![0, 0] :=
  (by decide +kernel : ∀ t : Fin grid0.N, win0_1.index t = ![0, 0])
theorem index2 : ∀ t : Fin cfg0.N, win0_2.index t = ![0, 0] :=
  (by decide +kernel : ∀ t : Fin grid0.N, win0_2.index t = ![0, 0])
theorem index4 : ∀ t : Fin cfg0.N, win0_4.index t = ![t.val, 0, 0] :=
  (by decide +kernel : ∀ t : Fin grid0.N, win0_4.index t = ![t.val, 0, 0])
theorem index5 : ∀ t : Fin cfg0.N, win0_5.index t = ![t.val, 0, 0] :=
  (by decide +kernel : ∀ t : Fin grid0.N, win0_5.index t = ![t.val, 0, 0])
theorem index6 : ∀ t : Fin cfg0.N, win0_6.index t = ![0, 0] :=
  (by decide +kernel : ∀ t : Fin grid0.N, win0_6.index t = ![0, 0])

theorem cast_inputs (x : FVec Ideal S32x384x32x32 .f32) (b : Fin 32) (k : Fin 384) (p : Fin 1024) :
    shapeCast S32x384x1024 x shapeCasts_S32x384x32x32_S32x384x1024 (ix3 b k p) = x (ix4 b k ⟨p.val / 32, by omega⟩ ⟨p.val % 32, Nat.mod_lt _ (by decide)⟩) := by
  pointwise
  done

theorem cast_bias (x : FVec Ideal S64 .f32) (d : Fin 64) : shapeCast S64x1 x shapeCasts_S64_S64x1 (ix2 d 0) = x (ix1 d) := by
  pointwise

theorem iblk0_apply (c : Dev nD) (t : Fin cfg0.N) (k : Fin 384) (p : Fin 1024) :
    (iblk m c 0 t : Vec Ideal S1x384x1024 .f32) (ix3 0 k p) = inputs m c (ix4 (batch t) k ⟨p.val / 32, by omega⟩ ⟨p.val % 32, Nat.mod_lt _ (by decide)⟩) := by
  rw [← cast_inputs (inputs m c) (batch t) k p]
  unfold iblk
  rw [View.read_apply]
  show V m c main_v0 _ = _
  rw [V_inputs]
  congr 1
  funext a
  apply Fin.ext
  match a with
  | ⟨0, _⟩ => show win0_0.index t 0 * 1 + 1 * 0 = t.val; rw [index0]; simp
  | ⟨1, _⟩ => show win0_0.index t 1 * 384 + 1 * k.val = k.val; rw [index0]; simp
  | ⟨2, _⟩ => show win0_0.index t 2 * 1024 + 1 * p.val = p.val; rw [index0]; simp

theorem iblk1_apply (c : Dev nD) (t : Fin cfg0.N) (d : Fin 64) (k : Fin 384) :
    (iblk m c 1 t : Vec Ideal S64x384 .f32) (ix2 d k) = weights m c (ix2 d k) := by
  unfold iblk
  rw [View.read_apply]
  show V m c main_arg1 _ = _
  rw [V_main_arg1]
  show m _ _ = m _ _
  congr 1
  funext a
  apply Fin.ext
  match a with
  | ⟨0, _⟩ => show win0_1.index t 0 * 64 + 1 * d.val = d.val; rw [index1]; simp
  | ⟨1, _⟩ => show win0_1.index t 1 * 384 + 1 * k.val = k.val; rw [index1]; simp

theorem iblk2_apply (c : Dev nD) (t : Fin cfg0.N) (d : Fin 64) :
    (iblk m c 2 t : Vec Ideal S64x1 .f32) (ix2 d 0) = bias m c (ix1 d) := by
  rw [← cast_bias (bias m c) d]
  unfold iblk
  rw [View.read_apply]
  show V m c main_v1 _ = _
  rw [V_bias]
  congr 1
  funext a
  apply Fin.ext
  match a with
  | ⟨0, _⟩ => show win0_2.index t 0 * 64 + 1 * d.val = d.val; rw [index2]; simp
  | ⟨1, _⟩ => show win0_2.index t 1 * 1 + 1 * 0 = 0; rw [index2]; simp

/-! ## The arrays after the last point -/

/-- A cast of a block to the array's rank. -/
theorem zeAt_apply (c : Dev nD) (t : Fin cfg0.N) (d : Fin 64) (p : Fin 1024) :
    zeAt m c t (ix3 0 d p) = (∑ k : Fin 384, weights m c (ix2 d k) * inputs m c (ix4 (batch t) k ⟨p.val / 32, by omega⟩ ⟨p.val % 32, Nat.mod_lt _ (by decide)⟩))
      + bias m c (ix1 d) := by
  have e : zeAt m c t (ix3 0 d p) = proj (iblk m c 0 t) (iblk m c 1 t) (iblk m c 2 t) (ix2 d p) := by
    unfold zeAt
    generalize proj (F := Ideal) (iblk m c 0 t) (iblk m c 1 t) (iblk m c 2 t) = z
    pointwise
  rw [e, proj_apply, iblk2_apply]
  congr 1
  exact Finset.sum_congr rfl fun k _ => by rw [iblk0_apply, iblk1_apply]

theorem final4 (c : Dev nD) (R : FVec Ideal S32x64x1024 .f32) (hR : ∀ (t : Fin cfg0.N) (d : Fin 64) (p : Fin 1024), zeAt m c t (ix3 0 d p) = R (ix3 (batch t) d p)) :
    (dats m 0 c).arrAt 4 cfg0.N = R :=
  (dats m 0 c).arrAt_eq_of_cover 4 R (fun t _ => by
    show (cfg0.win 4).cut (grid0.coords t) ((dats m 0 c).after 4 t) = _
    rw [after0_4]
    funext j
    rw [View.read_apply]
    have h0 : (j 0).val < 1 := (j 0).isLt
    have e : ((cfg0.win 4).blk t).view.emb j = (ix3 (batch t) (j 1) (j 2) : S32x64x1024.Idx) := by
      funext k
      apply Fin.ext
      match k with
      | ⟨0, _⟩ => show win0_4.index t 0 * 1 + 1 * (j 0).val = t.val; rw [index4]; simp; omega
      | ⟨1, _⟩ => show win0_4.index t 1 * 64 + 1 * (j 1).val = (j 1).val; rw [index4]; simp
      | ⟨2, _⟩ => show win0_4.index t 2 * 1024 + 1 * (j 2).val = (j 2).val; rw [index4]; simp
    rw [e]
    have e' : (cfg0.win 4).cut (grid0.coords t) (zeAt m c t) j = zeAt m c t (ix3 0 (j 1) (j 2)) := by
      show zeAt m c t _ = _
      congr 1
      refine (eq_ix3 _).trans ?_
      congr 1
      exact Fin.ext (by show (j 0).val = 0; omega)
    exact e'.trans (hR t (j 1) (j 2))) fun i => by
    have h0 : (i 0 : Nat) < 32 := (i 0).isLt
    have h1 : (i 1 : Nat) < 64 := (i 1).isLt
    have h2 : (i 2 : Nat) < 1024 := (i 2).isLt
    let t : Fin cfg0.N := ⟨(i 0 : Nat), by rw [show cfg0.N = 32 from N_0]; exact h0⟩
    refine ⟨t, flush0_4 t, ?_⟩
    show i ∈ ((View.whole main_v2_0).slice (win0_4.rect t)).set
    rw [View.set_slice_whole, Rect.mem_set_unit]
    intro a
    match a with
      | ⟨0, _⟩ => show win0_4.index t 0 * 1 ≤ (i 0 : Nat) ∧ (i 0 : Nat) < win0_4.index t 0 * 1 + 1; rw [index4]; show t.val * 1 ≤ t.val ∧ t.val < t.val * 1 + 1; omega
      | ⟨1, _⟩ => show win0_4.index t 1 * 64 ≤ (i 1 : Nat) ∧ (i 1 : Nat) < win0_4.index t 1 * 64 + 64; rw [index4]; simp; omega
      | ⟨2, _⟩ => show win0_4.index t 2 * 1024 ≤ (i 2 : Nat) ∧ (i 2 : Nat) < win0_4.index t 2 * 1024 + 1024; rw [index4]; simp; omega

theorem final5 (c : Dev nD) (R : IVec S32x1x1024 32) (hR : ∀ (t : Fin cfg0.N) (p : Fin 1024), codesAt m c t (ix3 0 0 p) = R (ix3 (batch t) 0 p)) :
    (dats m 0 c).arrAt 5 cfg0.N = R :=
  (dats m 0 c).arrAt_eq_of_cover 5 R (fun t _ => by
    show (cfg0.win 5).cut (grid0.coords t) ((dats m 0 c).after 5 t) = _
    rw [after0_5]
    funext j
    rw [View.read_apply]
    have h0 : (j 0).val < 1 := (j 0).isLt
    have h1 : (j 1).val < 1 := (j 1).isLt
    have e : ((cfg0.win 5).blk t).view.emb j = (ix3 (batch t) 0 (j 2) : S32x1x1024.Idx) := by
      funext k
      apply Fin.ext
      match k with
      | ⟨0, _⟩ => show win0_5.index t 0 * 1 + 1 * (j 0).val = t.val; rw [index5]; simp; omega
      | ⟨1, _⟩ => show win0_5.index t 1 * 1 + 1 * (j 1).val = 0; rw [index5]; simp; omega
      | ⟨2, _⟩ => show win0_5.index t 2 * 1024 + 1 * (j 2).val = (j 2).val; rw [index5]; simp
    rw [e]
    have e' : (cfg0.win 5).cut (grid0.coords t) (codesAt m c t) j = codesAt m c t (ix3 0 0 (j 2)) := by
      show codesAt m c t _ = _
      congr 1
      refine (eq_ix3 _).trans ?_
      congr 1
      · exact Fin.ext (by show (j 0).val = 0; omega)
      · exact Fin.ext (by show (j 1).val = 0; omega)
    exact e'.trans (hR t (j 2))) fun i => by
    have h0 : (i 0 : Nat) < 32 := (i 0).isLt
    have h1 : (i 1 : Nat) < 1 := (i 1).isLt
    have h2 : (i 2 : Nat) < 1024 := (i 2).isLt
    let t : Fin cfg0.N := ⟨(i 0 : Nat), by rw [show cfg0.N = 32 from N_0]; exact h0⟩
    refine ⟨t, flush0_5 t, ?_⟩
    show i ∈ ((View.whole main_v2_1).slice (win0_5.rect t)).set
    rw [View.set_slice_whole, Rect.mem_set_unit]
    intro a
    match a with
      | ⟨0, _⟩ => show win0_5.index t 0 * 1 ≤ (i 0 : Nat) ∧ (i 0 : Nat) < win0_5.index t 0 * 1 + 1; rw [index5]; show t.val * 1 ≤ t.val ∧ t.val < t.val * 1 + 1; omega
      | ⟨1, _⟩ => show win0_5.index t 1 * 1 ≤ (i 1 : Nat) ∧ (i 1 : Nat) < win0_5.index t 1 * 1 + 1; rw [index5]; simp; omega
      | ⟨2, _⟩ => show win0_5.index t 2 * 1024 ≤ (i 2 : Nat) ∧ (i 2 : Nat) < win0_5.index t 2 * 1024 + 1024; rw [index5]; simp; omega

theorem final6 (c : Dev nD) : (dats m 0 c).arrAt 6 cfg0.N = padOf (table m c) :=
  (dats m 0 c).arrAt_eq_of_cover 6 (padOf (table m c)) (fun t _ => by
    show (cfg0.win 6).cut (grid0.coords t) ((dats m 0 c).after 6 t) = _
    rw [after0_6]
    funext j
    rw [View.read_apply]
    have e : ((cfg0.win 6).blk t).view.emb j = (ix2 (j 0) (j 1) : S8192x128.Idx) := by
      funext k
      apply Fin.ext
      match k with
      | ⟨0, _⟩ => show win0_6.index t 0 * 8192 + 1 * (j 0).val = (j 0).val; rw [index6]; simp
      | ⟨1, _⟩ => show win0_6.index t 1 * 128 + 1 * (j 1).val = (j 1).val; rw [index6]; simp
    rw [e]
    show padOf (table m c) _ = _
    congr 1
    exact eq_ix2 _) fun i => by
    have h0 : (i 0 : Nat) < 8192 := (i 0).isLt
    have h1 : (i 1 : Nat) < 128 := (i 1).isLt
    let t : Fin cfg0.N := ⟨31, by rw [show cfg0.N = 32 from N_0]; decide⟩
    refine ⟨t, (flush0_6 t).mpr rfl, ?_⟩
    show i ∈ ((View.whole main_v2_2).slice (win0_6.rect t)).set
    rw [View.set_slice_whole, Rect.mem_set_unit]
    intro a
    match a with
    | ⟨0, _⟩ => show win0_6.index t 0 * 8192 ≤ (i 0 : Nat) ∧ (i 0 : Nat) < win0_6.index t 0 * 8192 + 8192; rw [index6]; simp; omega
    | ⟨1, _⟩ => show win0_6.index t 1 * 128 ≤ (i 1 : Nat) ∧ (i 1 : Nat) < win0_6.index t 1 * 128 + 128; rw [index6]; simp; omega

/-! ## The reference's results -/

open ArgminReference (ze flat argmax minusDist padded ze_apply flat_apply minusDist_apply argmax_first)

theorem cast_ze (z : FVec Ideal Cert.ArgminRefIdeal.S32x64x32x32 .f32) (h : Cert.ArgminRefIdeal.S32x64x32x32.ShapeCasts S32x64x1024) (t : Fin 32) (d : Fin 64) (p : Fin 1024) :
    shapeCast S32x64x1024 z h (ix3 t d p) = z (ix4 t d ⟨p.val / 32, by omega⟩ ⟨p.val % 32, Nat.mod_lt _ (by decide)⟩) := by
  pointwise
  done

theorem cast_codes (a : IVec Cert.ArgminRefIdeal.S32768 32) (h : Cert.ArgminRefIdeal.S32768.ShapeCasts S32x1x1024) (t : Fin 32) (p : Fin 1024) :
    shapeCast S32x1x1024 a h (ix3 t 0 p) = a (ix1 ⟨1024 * t.val + p.val, by omega⟩) := by
  pointwise
  simp only [Nat.mul_comm t.val 1024]

/-- The projected rows are the reference's. -/
theorem rows_eq (c : Dev nD) (t : Fin cfg0.N) (d : Fin 64) (p : Fin 1024) :
    zeAt m c t (ix3 0 d p) = ze (inputs m c) (weights m c) (bias m c) (ix4 (batch t) d ⟨p.val / 32, by omega⟩ ⟨p.val % 32, Nat.mod_lt _ (by decide)⟩) := by
  rw [zeAt_apply, ze_apply]

theorem proj_eq (c : Dev nD) (t : Fin cfg0.N) (d : Fin 64) (p : Fin 1024) :
    proj (F := Ideal) (iblk m c 0 t) (iblk m c 1 t) (iblk m c 2 t) (ix2 d p)
      = flat (ze (inputs m c) (weights m c) (bias m c)) (ix2 ⟨1024 * (batch t).val + p.val, by have := (batch t).isLt; omega⟩ d) := by
  rw [flat_apply, ze_apply, proj_apply, iblk2_apply]
  congr 1
  exact Finset.sum_congr rfl fun k _ => by rw [iblk0_apply, iblk1_apply]

theorem padOf_eq (x : FVec Ideal S8192x64 .f32) : padOf (F := Ideal) x = padded x := by
  funext i
  obtain ⟨a, b, rfl⟩ : ∃ a b, i = ix2 a b := ⟨i 0, i 1, eq_ix2 i⟩
  pointwise [padOf, padded]
  rw [show (FloatOps.sitofp (F := Ideal) .f32 0#32) = (0 : EReal) by show (((0#32 : BitVec 32).toInt : ℝ) : EReal) = 0; simp]

variable (hX : ∀ c i, IsReal (inputs m c i)) (hW : ∀ c i, IsReal (weights m c i)) (hB : ∀ c i, IsReal (bias m c i))
  (hT : ∀ c i, IsReal ((table m c : FVec Ideal S8192x64 .f32) i))

include hX hW hB hT

/-- Over real inputs, the nearest codes are the reference's. -/
theorem codes_eq (c : Dev nD) (t : Fin cfg0.N) (p : Fin 1024) :
    codesAt m c t (ix3 0 0 p)
      = argmax (minusDist (flat (ze (inputs m c) (weights m c) (bias m c))) (table m c)) (ix1 ⟨1024 * (batch t).val + p.val, by have := (batch t).isLt; omega⟩) := by
  have hz : ∀ d, IsReal (proj (F := Ideal) (iblk m c 0 t) (iblk m c 1 t) (iblk m c 2 t) (ix2 d p)) := fun d => by
    rw [proj_eq, flat_apply, ze_apply]
    exact isReal_add _ _ (isReal_sum _ fun k => isReal_mul _ _ (hW c _) (hX c _)) (hB c _)
  have hfin : ∀ n, dist (proj (F := Ideal) (iblk m c 0 t) (iblk m c 1 t) (iblk m c 2 t)) (table m c) p n < ⊤ := fun n => by
    obtain ⟨r, hr⟩ := (dist_real (fun d => proj (F := Ideal) (iblk m c 0 t) (iblk m c 1 t) (iblk m c 2 t) (ix2 d p))
      (fun d => (table m c : FVec Ideal S8192x64 .f32) (ix2 ⟨n % 8192, Nat.mod_lt _ (by decide)⟩ d)) hz fun d => hT c _).1
    exact lt_of_eq_of_lt hr (EReal.coe_lt_top r)
  obtain ⟨n, hn⟩ := exists_isFirst (dist (proj (F := Ideal) (iblk m c 0 t) (iblk m c 1 t) (iblk m c 2 t)) (table m c) p) 8192 (by decide)
  have h1 := codes_first (iblk m c 0 t) (iblk m c 1 t) (iblk m c 2 t) (table m c) p hfin n hn
  refine Eq.trans h1 (argmax_first _ _ _ (fun k => ?_) hfin n hn).symm
  rw [minusDist_apply]
  refine congrArg Neg.neg ?_
  have h2 := (dist_real (fun d => proj (F := Ideal) (iblk m c 0 t) (iblk m c 1 t) (iblk m c 2 t) (ix2 d p))
      (fun d => (table m c : FVec Ideal S8192x64 .f32) (ix2 k d)) hz fun d => hT c _).2
  simp only [proj_eq] at h2
  refine h2.trans ?_
  have hk : (⟨k.val % 8192, Nat.mod_lt _ (by decide)⟩ : Fin 8192) = k := Fin.ext (Nat.mod_eq_of_lt k.isLt)
  unfold dist
  simp only [proj_eq, hk]

/-- Every execution ends with the reference's three results and the arguments unchanged, over real inputs. -/
theorem run_kernel (ρ : Dev nD → PrngReg) (hz : Cert.ArgminRefIdeal.S32x64x32x32.ShapeCasts S32x64x1024)
    (hi : Cert.ArgminRefIdeal.S32768.ShapeCasts S32x1x1024) :
    θ_run defs (onTc (τ := τ) (main (F := Ideal))) ⟨m, fun _ => 0, ρ⟩ fun r => ∀ c : Dev nD,
      r.2.mem ((c.tc : Thread nD τ).loc main_v2_0) = shapeCast S32x64x1024 (ze (inputs m c) (weights m c) (bias m c)) hz
      ∧ r.2.mem ((c.tc : Thread nD τ).loc main_v2_1) = shapeCast S32x1x1024 (argmax (minusDist (flat (ze (inputs m c) (weights m c) (bias m c))) (table m c))) hi
      ∧ r.2.mem ((c.tc : Thread nD τ).loc main_v2_2) = padded (table m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h.2 c).1 4).trans (final4 m c _ fun t d p => (rows_eq m c t d p).trans (cast_ze _ _ _ _ _).symm),
      ((h.2 c).1 5).trans (final5 m c _ fun t p => (codes_eq m hX hW hB hT c t p).trans (cast_codes _ _ _ _).symm),
      ((h.2 c).1 6).trans ((final6 m c).trans (padOf_eq _)), h.1 c⟩)
    (θ_run_and (unchanged m ρ) (run_main m ρ))

end Value

end Argmin

end
-- ==== Proof.lean ====
/-
  The proof of `Cert.Claim`. The kernel's run is `Gather.run_main` (Proof/Launch.lean): every execution ends with the
  result equal to the rows `gathered`. The reference's value is the same rows, where every index is a row of the table
  (Proof/Take.lean), which the precondition says (`inTable_of_pre`). Both hold at any float values, so the algebraic and
  the bit-exact claim are the same argument.

  The call after the gather is a program of its own, `finish`: its run is `Finish.run_kernel`, and the reference's results
  are those of `FinishReference.first` and `FinishReference.second` (all in Proof/Finish.lean).

  So is the call before it, `argmin`: its run is `Argmin.run_kernel` (Proof/ArgminValues.lean), stated with the functions
  of the reference's run `ArgminReference.run` (Proof/ArgminRefRun.lean). The nearest codes are the same where every input
  is a real number, which the precondition says (`Argmin.real_of_pre`).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Reference.Run
public import proofs.«01_k».proof.Proof.Gen.Pre_in_table
public import proofs.«01_k».proof.Proof.Take
public import proofs.«01_k».proof.Proof.Gen.Finish
public import proofs.«01_k».proof.Proof.Gen.Finish.Skeleton
public import proofs.«01_k».proof.Proof.Gen.Finish.Launch
public import proofs.«01_k».proof.Proof.Gen.Finish.Points
public import proofs.«01_k».proof.Proof.Gen.Finish.Frame
public import proofs.«01_k».proof.Proof.Gen.FinishIdeal
public import proofs.«01_k».proof.Proof.Gen.FinishIdeal.Value
public import proofs.«01_k».proof.Proof.Gen.FinishIdeal.Skeleton
public import proofs.«01_k».proof.Proof.Gen.FinishIdeal.Launch
public import proofs.«01_k».proof.Proof.Gen.FinishIdeal.Points
public import proofs.«01_k».proof.Proof.Gen.FinishIdeal.Frame
public import proofs.«01_k».proof.Proof.Gen.FinishRefIdeal
public import proofs.«01_k».proof.Proof.Gen.FinishRefIdeal.Run
public import proofs.«01_k».proof.Proof.Finish
public import proofs.«01_k».proof.Proof.Gen.Argmin
public import proofs.«01_k».proof.Proof.Gen.Argmin.Skeleton
public import proofs.«01_k».proof.Proof.Gen.ArgminIdeal
public import proofs.«01_k».proof.Proof.Gen.ArgminIdeal.Skeleton
public import proofs.«01_k».proof.Proof.Gen.ArgminIdeal.Launch
public import proofs.«01_k».proof.Proof.Gen.ArgminIdeal.Points
public import proofs.«01_k».proof.Proof.Gen.ArgminIdeal.Frame
public import proofs.«01_k».proof.Proof.Gen.ArgminRefIdeal
public import proofs.«01_k».proof.Proof.Gen.Pre_finite
public import proofs.«01_k».proof.Proof.ArgminValues
public import Idealize.ShloMosaic.Adequacy
public import Idealize.ShloMosaic.Init

@[expose] public section

noncomputable section

namespace Cert.Proof

open Idealize.ShloMosaic Idealize.SL.Sem

/-- The precondition says that every index is a row of the table. -/
theorem inTable_of_pre {F : FTy → Type} [FloatOps F] (X : FVec F Pre_in_table.S8192x128 .f32) (I : IVec Pre_in_table.S1x32768 32)
    (h : Pre_in_table.fn X I = fun _ => 1#1) (j : Pre_in_table.S1x32768.Idx) : (I j).toNat < 8192 := by
  have : Subsingleton Pre_in_table.S_.Idx := ⟨fun a b => funext fun i => i.elim0⟩
  have e : IntOp.andi (IntOp.cmpi .sge (I j) 0#32) (IntOp.cmpi .slt (I j) 8192#32) = 1#1 :=
    Host.reduce_andi_all _ _ _ _ (fun i => i.elim0) (congrFun h _) j
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem frame_kernel : Cert.quiescent_Kernel := fun m ρ hpre =>
  (θ_run Cert.KernelIdeal.defs _ _).mono (fun _ h => ⟨fun c => ⟨(h.1 c).1, (h.1 c).2.1⟩, h.2⟩)
    (Gather.run_main (F := Bits) m ρ fun d => inTable_of_pre _ _ (hpre d))

theorem frame_kernelIdeal : Cert.quiescent_KernelIdeal := fun m ρ hpre =>
  (θ_run Cert.KernelIdeal.defs _ _).mono (fun _ h => ⟨fun c => ⟨(h.1 c).1, (h.1 c).2.1⟩, h.2⟩)
    (Gather.run_main (F := Ideal) m ρ fun d => inTable_of_pre _ _ (hpre d))

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_referenceIdeal_pre : Cert.quiescent_ReferenceIdeal_pre_in_table := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

/-- The result shared by the kernel and the reference is the rows `gathered` from the launch contents. -/
theorem algebraic : Cert.algebraic_KernelIdeal_ReferenceIdeal := by
  intro m ρ m' ρ' hpre hargs
  have hI : Gather.InTable m := fun d => inTable_of_pre _ _ (hpre d)
  refine ⟨fun c => Gather.rows m c, ?_, ?_⟩
  · exact (θ_run Cert.KernelIdeal.defs _ _).mono (fun _ h c => ⟨(h.1 c).2.2, (h.1 c).1, (h.1 c).2.1⟩)
      (Gather.run_main (F := Ideal) m ρ hI)
  · refine (θ_run Cert.ReferenceIdeal.defs _ _).mono (fun _ h c => ⟨(h c).1.trans ?_, (h c).2⟩)
      (Cert.ReferenceIdeal.Value.run (F := Ideal) m' ρ')
    rw [(hargs c).1, (hargs c).2]
    exact Take.taken_eq (F := Ideal) _ (hI c)

theorem bitexact : Cert.bitexact_Kernel_Reference := by
  intro m ρ m' ρ' hpre hargs
  have hI : Gather.InTable (F := Bits) m := fun d => inTable_of_pre _ _ (hpre d)
  refine ⟨fun c => Gather.rows (F := Bits) m c, ?_, ?_⟩
  · exact (θ_run Cert.KernelIdeal.defs _ _).mono (fun _ h c => ⟨(h.1 c).2.2, (h.1 c).1, (h.1 c).2.1⟩)
      (Gather.run_main (F := Bits) m ρ hI)
  · refine (θ_run Cert.Reference.defs _ _).mono (fun _ h c => ⟨(h c).1.trans ?_, (h c).2⟩)
      (Cert.Reference.Value.run (F := Bits) m' ρ')
    rw [(hargs c).1, (hargs c).2]
    exact Take.taken_eq (F := Bits) _ (hI c)

theorem frame_finish : Cert.quiescent_Finish := fun m ρ _ => Cert.Finish.Gen.frame m ρ

theorem frame_finishIdeal : Cert.quiescent_FinishIdeal := fun m ρ _ => Cert.FinishIdeal.Gen.frame m ρ

theorem frame_finishRefIdeal : Cert.quiescent_FinishRefIdeal := fun m ρ _ =>
  (θ_run Cert.FinishRefIdeal.defs _ _).mono (fun r h => ⟨fun c => (h c).2.2, sem_eq_zero_of_no_sems (by decide) r.2⟩)
    (Cert.FinishRefIdeal.Value.run (F := Ideal) m ρ)

/-- The call after the gather: both of its results equal those of the reference, for any rows and any projected inputs. -/
theorem finish : Cert.algebraic_FinishIdeal_FinishRefIdeal := by
  intro m ρ m' ρ' _ hargs
  refine ⟨fun c => Finish.result2 m c, fun c => Finish.result3 m c, Finish.run_kernel m ρ, ?_⟩
  refine (θ_run Cert.FinishRefIdeal.defs _ _).mono (fun _ h c => ⟨(h c).1.trans ?_, (h c).2.1.trans ?_, (h c).2.2⟩)
    (Cert.FinishRefIdeal.Value.run (F := Ideal) m' ρ')
  · rw [(hargs c).1, (hargs c).2]
    exact FinishReference.first _ _ _ _
  · rw [(hargs c).1, (hargs c).2]
    exact FinishReference.second _ _ _ (FinishReference.sub_apply _ _ _ _) _ _ _

/-- The program on machine words has the same kernel body as the ideal one. -/
theorem argmin_bodies : Cert.Argmin.defs₀ (F := Bits) = Cert.ArgminIdeal.defs₀ := by
  refine congrArg Defs.onTc (funext fun l => funext fun a => ?_)
  match l, a with
  | ⟨0, _⟩, (t, s) =>
    show Cert.Argmin.cc0__argmin_kernel (F := Bits) _ _ _ _ _ _ _ _ _ _ _ _ _ _ _ _ _ _ _
      = Cert.ArgminIdeal.cc0__argmin_kernel _ _ _ _ _ _ _ _ _ _ _ _ _ _ _ _ _ _ _
    rfl

theorem argmin_defs : Cert.Argmin.defs (F := Bits) = Cert.ArgminIdeal.defs :=
  congrArg (Pipeline.defs Cert.ArgminIdeal.pcfgs) argmin_bodies

theorem frame_argmin : Cert.quiescent_Argmin := fun m ρ _ => by
  rw [argmin_defs]
  exact Argmin.frame (F := Bits) m ρ

theorem frame_argminIdeal : Cert.quiescent_ArgminIdeal := fun m ρ _ => Argmin.frame (F := Ideal) m ρ

theorem frame_argminIdeal_pre : Cert.quiescent_ArgminIdeal_pre_finite := fun m ρ _ => Argmin.frame (F := Ideal) m ρ

theorem frame_argminRefIdeal : Cert.quiescent_ArgminRefIdeal := fun m ρ _ =>
  (θ_run Cert.ArgminRefIdeal.defs _ _).mono (fun r h => ⟨fun c => (h c).2.2.2, sem_eq_zero_of_no_sems (by decide) r.2⟩)
    (ArgminReference.run (F := Ideal) m ρ)

theorem frame_argminRefIdeal_pre : Cert.quiescent_ArgminRefIdeal_pre_finite := fun m ρ _ => frame_argminRefIdeal m ρ trivial

/-- The call before the gather: its three results equal those of the reference, for any real inputs. -/
theorem argmin : Cert.algebraic_ArgminIdeal_ArgminRefIdeal_pre_finite := by
  intro m ρ m' ρ' hpre hargs
  have hr := fun c => Argmin.real_of_pre _ _ _ _ (hpre c)
  refine ⟨_, _, _, Argmin.run_kernel m (fun c => (hr c).1) (fun c => (hr c).2.1) (fun c => (hr c).2.2.1) (fun c => (hr c).2.2.2) ρ
    Cert.ArgminRefIdeal.Gen.facts.shapeCasts_S32x64x32x32_S32x64x1024 Cert.ArgminRefIdeal.Gen.facts.shapeCasts_S32768_S32x1x1024, ?_⟩
  refine (θ_run Cert.ArgminRefIdeal.defs _ _).mono (fun _ h c => ⟨(h c).1.trans ?_, (h c).2.1.trans ?_, (h c).2.2.1.trans ?_, (h c).2.2.2⟩)
    (ArgminReference.run (F := Ideal) m' ρ')
  · rw [(hargs c).1, (hargs c).2.1, (hargs c).2.2.1]
  · rw [(hargs c).1, (hargs c).2.1, (hargs c).2.2.1, (hargs c).2.2.2]
  · rw [(hargs c).2.2.2]

theorem claim : Cert.Claim := ⟨Cert.Kernel.Gen.facts, Cert.KernelIdeal.Gen.facts, Cert.ReferenceIdeal.Gen.facts, Cert.Reference.Gen.facts,
  Cert.Finish.Gen.facts, Cert.FinishIdeal.Gen.facts, Cert.FinishRefIdeal.Gen.facts,
  Cert.Argmin.Gen.facts, Cert.ArgminIdeal.Gen.facts, Cert.ArgminRefIdeal.Gen.facts, Cert.Pre_in_table.Gen.facts, Cert.Pre_finite.Gen.facts,
  frame_kernel, frame_kernelIdeal, frame_referenceIdeal, frame_referenceIdeal_pre, frame_reference,
  frame_finish, frame_finishIdeal, frame_finishRefIdeal,
  frame_argmin, frame_argminIdeal, frame_argminIdeal_pre, frame_argminRefIdeal, frame_argminRefIdeal_pre,
  trivial, algebraic, bitexact, trivial, finish, trivial, argmin⟩

end Cert.Proof

end
